-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x1024x1024 : Shape := ⟨3, ![1, 1024, 1024]⟩
abbrev S4 : Shape := ⟨1, ![4]⟩
abbrev S1024x1024 : Shape := ⟨2, ![1024, 1024]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 3
  | .vmem => 4
  | .smem => 1
  | _ => 0

abbrev bufTy : (tb : Table) → Fin (tcTables nBuf tb) → BufTy
  | .hbm, ⟨0, _⟩ => ⟨S1x1024x1024, .f32⟩
  | .hbm, ⟨1, _⟩ => ⟨S4, .i32⟩
  | .hbm, ⟨2, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .smem, ⟨0, _⟩ => ⟨S4, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v10 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let c4_i32_8 : BitVec 32 := 4#32
  let v26 : BitVec 32 := Scalar.muli v10 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v28 : BitVec 32 := Scalar.muli v8 c1_i32_9
  let v29 : BitVec 32 := Scalar.addi v27 v28
  v29.toNat

def k0_dev2 (d0 : Dev nD) (v11 : BitVec 32) (v14 : BitVec 32) (v17 : BitVec 32) (v20 : BitVec 32) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v30 : BitVec 32 := Scalar.muli v2 c16_i32_11
  let v31 : BitVec 32 := Scalar.addi c0_i32_12 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_13 : BitVec 32 := 4#32
  let v32 : BitVec 32 := Scalar.muli v22 c4_i32_13
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v34 : BitVec 32 := Scalar.muli v8 c1_i32_14
  let v35 : BitVec 32 := Scalar.addi v33 v34
  v35.toNat

def k0_chk2 (d0 : Dev nD) (v11 : BitVec 32) (v14 : BitVec 32) (v17 : BitVec 32) (v20 : BitVec 32) : Prop :=
  ((k0_dev2 d0 v11 v14 v17 v20) < nD)
theorem k0_dev2_lt : ∀ (d0 : Dev nD) (v11 : BitVec 32) (v14 : BitVec 32) (v17 : BitVec 32) (v20 : BitVec 32) (k0_hw2 : k0_chk2 d0 v11 v14 v17 v20), (k0_dev2 d0 v11 v14 v17 v20) < nD := fun d0 v11 v14 v17 v20 k0_hw2 => k0_hw2

def k0_dev3 (d0 : Dev nD) (v10 : BitVec 32) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v42 : BitVec 32 := Scalar.muli v2 c16_i32_23
  let v43 : BitVec 32 := Scalar.addi c0_i32_24 v42
  let c4_i32_25 : BitVec 32 := 4#32
  let v44 : BitVec 32 := Scalar.muli v10 c4_i32_25
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.muli v8 c1_i32_26
  let v47 : BitVec 32 := Scalar.addi v45 v46
  v47.toNat
def k0_dev4 (d0 : Dev nD) (v10 : BitVec 32) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v60 : BitVec 32 := Scalar.muli v2 c16_i32_37
  let v61 : BitVec 32 := Scalar.addi c0_i32_38 v60
  let c4_i32_39 : BitVec 32 := 4#32
  let v62 : BitVec 32 := Scalar.muli v10 c4_i32_39
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v64 : BitVec 32 := Scalar.muli v8 c1_i32_40
  let v65 : BitVec 32 := Scalar.addi v63 v64
  v65.toNat
def k0_dev5 (d0 : Dev nD) (v10 : BitVec 32) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v78 : BitVec 32 := Scalar.muli v2 c16_i32_50
  let v79 : BitVec 32 := Scalar.addi c0_i32_51 v78
  let c4_i32_52 : BitVec 32 := 4#32
  let v80 : BitVec 32 := Scalar.muli v10 c4_i32_52
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v82 : BitVec 32 := Scalar.muli v8 c1_i32_53
  let v83 : BitVec 32 := Scalar.addi v81 v82
  v83.toNat
def k0_dev6 (d0 : Dev nD) (v10 : BitVec 32) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v96 : BitVec 32 := Scalar.muli v2 c16_i32_63
  let v97 : BitVec 32 := Scalar.addi c0_i32_64 v96
  let c4_i32_65 : BitVec 32 := 4#32
  let v98 : BitVec 32 := Scalar.muli v10 c4_i32_65
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v100 : BitVec 32 := Scalar.muli v8 c1_i32_66
  let v101 : BitVec 32 := Scalar.addi v99 v100
  v101.toNat

def k0_chk1 (d0 : Dev nD) (v10 : BitVec 32) : Prop :=
  ((k0_dev1 d0 v10) < nD) ∧
  ((k0_dev3 d0 v10) < nD) ∧
  ((k0_dev4 d0 v10) < nD) ∧
  ((k0_dev5 d0 v10) < nD) ∧
  ((k0_dev6 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2.1
theorem k0_dev4_lt : ∀ (d0 : Dev nD) (v10 : BitVec 32) (k0_hw1 : k0_chk1 d0 v10), (k0_dev4 d0 v10) < nD := fun d0 v10 k0_hw1 => k0_hw1.2.2.1
theorem k0_dev5_lt : ∀ (d0 : Dev nD) (v10 : BitVec 32) (k0_hw1 : k0_chk1 d0 v10), (k0_dev5 d0 v10) < nD := fun d0 v10 k0_hw1 => k0_hw1.2.2.2.1
theorem k0_dev6_lt : ∀ (d0 : Dev nD) (v10 : BitVec 32) (k0_hw1 : k0_chk1 d0 v10), (k0_dev6 d0 v10) < nD := fun d0 v10 k0_hw1 => k0_hw1.2.2.2.2

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Same.lean ====
/- The kernel and the kernel over the reals are one program text, read at two kinds of float values: what is proved of the
   one for any float values is proved of the other. -/
module

public import proofs.«01_k».proof.Proof.Gen.Kernel
public import proofs.«01_k».proof.Proof.Gen.KernelIdeal

@[expose] public section

noncomputable section

namespace Cert.Shuffle

open Idealize.ShloMosaic Idealize.ShloMosaic.TcCoe Idealize.SL.Sem

variable {F : FTy → Type} [FloatOps F]

/-- The two bodies are the same. -/
theorem same_body : Cert.Kernel.cc0_body (F := F) = Cert.KernelIdeal.cc0_body (F := F) := rfl

/-- The two tables of bodies are the same. -/
theorem same_defs₀ : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F)
    (Λ := Cert.KernelIdeal.Λ₀)) ?_
  funext ℓ x
  match ℓ, x with
  | 0, (t, s) => rfl

/-- The two programs' tables are the same. -/
theorem same_defs : Cert.Kernel.defs (F := F) = Cert.KernelIdeal.defs (F := F) :=
  congrArg (Pipeline.defs (Cert.KernelIdeal.pcfgs (F := F))) same_defs₀

/-- The two programs' entries are the same. -/
theorem same_main : Cert.Kernel.main (F := F) = Cert.KernelIdeal.main (F := F) := rfl

/-- What holds of every run of the one holds of every run of the other. -/
theorem same_runs (s : MemSt Cert.Kernel.nD Cert.Kernel.τ Cert.Kernel.sig (Elt F))
    (Q : PUnit × MemSt Cert.Kernel.nD Cert.Kernel.τ Cert.Kernel.sig (Elt F) → Prop)
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q := by
  rw [same_defs]
  exact h

end Cert.Shuffle

end
-- ==== Proof.Route.lean ====
/-
# Where a device's block goes

The mesh is 2 × 4 × 4, a device numbered `(a * 4 + y) * 4 + z`. The kernel reads a table of four words; read as a
permutation `π` of the middle coordinate, it sends the block of coordinate `y` to coordinate `π y`, the other two
coordinates kept. This file has that map of devices and its inverse, and that the device numbers the kernel computes
from the table's words are these two.
-/
module

public import proofs.«01_k».proof.Proof.Gen.KernelIdeal

@[expose] public section

noncomputable section

namespace Cert.Shuffle

open Cert.KernelIdeal Cert.KernelIdeal.Gen
open Idealize.ShloMosaic

/-- The middle coordinate of a device. -/
def mid (c : Dev nD) : Fin 4 := ⟨c.val / 4 % 4, Nat.mod_lt _ (by omega)⟩

/-- The device beside `c` at middle coordinate `y`. -/
def beside (c : Dev nD) (y : Fin 4) : Dev nD := ⟨16 * (c.val / 16) + 4 * y.val + c.val % 4, by
  have h := c.isLt
  have h' := y.isLt
  simp only [nD] at h ⊢
  omega⟩

theorem mid_beside (c : Dev nD) (y : Fin 4) : mid (beside c y) = y := by
  have h' := y.isLt
  refine Fin.ext ?_
  simp only [mid, beside]
  omega

theorem beside_beside (c : Dev nD) (y z : Fin 4) : beside (beside c y) z = beside c z := by
  have h' := y.isLt
  refine Fin.ext ?_
  simp only [beside]
  omega

theorem beside_mid (c : Dev nD) : beside c (mid c) = c := by
  refine Fin.ext ?_
  simp only [mid, beside]
  omega

/-- The device that receives `c`'s block under `π`. -/
def nxt (π : Equiv.Perm (Fin 4)) (c : Dev nD) : Dev nD := beside c (π (mid c))
/-- The device whose block `c` receives. -/
def prv (π : Equiv.Perm (Fin 4)) (c : Dev nD) : Dev nD := beside c (π.symm (mid c))

theorem prv_nxt (π : Equiv.Perm (Fin 4)) (c : Dev nD) : prv π (nxt π c) = c := by
  unfold prv nxt
  rw [mid_beside, beside_beside, Equiv.symm_apply_apply, beside_mid]

theorem nxt_prv (π : Equiv.Perm (Fin 4)) (c : Dev nD) : nxt π (prv π c) = c := by
  unfold prv nxt
  rw [mid_beside, beside_beside, Equiv.apply_symm_apply, beside_mid]

theorem nxt_eq_iff (π : Equiv.Perm (Fin 4)) {a b : Dev nD} : b = nxt π a ↔ a = prv π b :=
  ⟨fun h => by rw [h, prv_nxt], fun h => by rw [h, nxt_prv]⟩

/-- The map of devices as a bijection. -/
def around (π : Equiv.Perm (Fin 4)) : Dev nD ≃ Dev nD := ⟨nxt π, prv π, prv_nxt π, nxt_prv π⟩

/-! ## The table -/

/-- One word of the table. -/
abbrev wordOf (k : Fin 4) : BitVec 32 := BitVec.ofNat 32 k.val

/-- The table of a permutation: its values as words. -/
def tab (π : Equiv.Perm (Fin 4)) : IVec S4 32 := fun i => wordOf (π (i 0 : Fin 4))

/-! ## The device numbers the kernel computes -/

/-- The number computed from the device's own table word, at each of the five places it is computed. -/
theorem own_word : ∀ (c : Dev nD) (y : Fin 4),
    k0_dev1 c (wordOf y) = (beside c y).val ∧ k0_dev3 c (wordOf y) = (beside c y).val
      ∧ k0_dev4 c (wordOf y) = (beside c y).val ∧ k0_dev5 c (wordOf y) = (beside c y).val
      ∧ k0_dev6 c (wordOf y) = (beside c y).val := by
  decide +kernel

/-- The number computed from all four words: the last of them equal to the device's coordinate gives the place. -/
theorem four_words : ∀ (c : Dev nD) (p q r s : Fin 4),
    k0_dev2 c (wordOf p) (wordOf q) (wordOf r) (wordOf s)
      = (beside c (if s = mid c then 3 else if r = mid c then 2 else if q = mid c then 1 else 0)).val := by
  decide +kernel

/-- For a permutation, that place is the one the permutation sends to the device's coordinate. -/
theorem place_of_value (π : Equiv.Perm (Fin 4)) (y : Fin 4) :
    (if π 3 = y then 3 else if π 2 = y then 2 else if π 1 = y then 1 else 0 : Fin 4) = π.symm y := by
  obtain ⟨k, rfl⟩ := π.surjective y
  simp only [π.injective.eq_iff, Equiv.symm_apply_apply]
  revert k
  decide

variable (π : Equiv.Perm (Fin 4)) (c : Dev nD)

theorem dev1_eq : k0_dev1 c (wordOf (π (mid c))) = (nxt π c).val := (own_word c _).1
theorem dev3_eq : k0_dev3 c (wordOf (π (mid c))) = (nxt π c).val := (own_word c _).2.1
theorem dev4_eq : k0_dev4 c (wordOf (π (mid c))) = (nxt π c).val := (own_word c _).2.2.1
theorem dev5_eq : k0_dev5 c (wordOf (π (mid c))) = (nxt π c).val := (own_word c _).2.2.2.1
theorem dev6_eq : k0_dev6 c (wordOf (π (mid c))) = (nxt π c).val := (own_word c _).2.2.2.2

theorem dev2_eq : k0_dev2 c (wordOf (π 0)) (wordOf (π 1)) (wordOf (π 2)) (wordOf (π 3)) = (prv π c).val := by
  rw [four_words, place_of_value]; rfl

/-- The kernel's assumption on its own table word holds of a permutation's table. -/
theorem own_word_ok : k0_chk1 c (wordOf (π (mid c))) := by
  unfold k0_chk1
  rw [dev1_eq, dev3_eq, dev4_eq, dev5_eq, dev6_eq]
  exact ⟨(nxt π c).isLt, (nxt π c).isLt, (nxt π c).isLt, (nxt π c).isLt, (nxt π c).isLt⟩

end Cert.Shuffle

end
-- ==== Proof.Rows.lean ====
/-
# The four row groups of the buffers

The kernel treats its 1024 rows in four groups of 256. This file has the groups as rectangles of the two scratch buffers
and of the staged blocks, what each step writes into one of them (the narrowing store, the landing of a transfer, the
widening store), and that ownership of a buffer is ownership of its four groups.
-/
module

public import proofs.«01_k».proof.Proof.Gen.KernelIdeal
public import proofs.«01_k».proof.Proof.Gen.KernelIdeal.Skeleton
public import Idealize.ShloMosaic.Lib.Pipeline.Kit
public import Idealize.ShloMosaic.Lib.Pipeline.Value
public import Idealize.ShloMosaic.Lib.ValueLayout

@[expose] public section

noncomputable section

namespace Cert.Shuffle

open Cert.KernelIdeal Cert.KernelIdeal.Gen
open Idealize.ShloMosaic Idealize.ShloMosaic.TcCoe
open Idealize.SL Idealize.SL.RA Idealize.SL.BI
open Idealize.ShloMosaic.ValueIdx
open scoped Idealize.SL.BI
open Idealize.SL.BI.BIBase Idealize.SL.BI.Laws Idealize.SL.ProofMode Idealize.SL.Sem

variable {F : FTy → Type} [FloatOps F]

/-! ## Rectangles -/

theorem rows_inb (k : Fin 4) : ∀ a, (![256 * k.val, 0] : Fin 2 → Nat) a + S256x1024.size a ≤ S1024x1024.size a := by
  revert k; decide
theorem slab_inb (k : Fin 4) : ∀ a, (![0, 256 * k.val, 0] : Fin 3 → Nat) a + S1x256x1024.size a ≤ S1x1024x1024.size a := by
  revert k; decide

/-- Row group `k` of a scratch buffer, -/
abbrev rows (k : Fin 4) : Rect S1024x1024 := Rect.unit (s := S1024x1024) ![256 * k.val, 0] S256x1024.size (rows_inb k)
/-- and of a staged block. -/
abbrev slab (k : Fin 4) : Rect S1x1024x1024 := Rect.unit (s := S1x1024x1024) ![0, 256 * k.val, 0] S1x256x1024.size (slab_inb k)

theorem mem_rows (k : Fin 4) (i : S1024x1024.Idx) : i ∈ (rows k).set ↔ (i 0).val / 256 = k.val := by
  rw [Rect.mem_set_unit, Fin.forall_fin_two]
  have h0 : (i 0).val < 1024 := (i 0).isLt
  have h1 : (i 1).val < 1024 := (i 1).isLt
  show (256 * k.val ≤ (i 0).val ∧ (i 0).val < 256 * k.val + 256) ∧ (0 ≤ (i 1).val ∧ (i 1).val < 0 + 1024) ↔ _
  omega

theorem mem_slab (k : Fin 4) (i : S1x1024x1024.Idx) : i ∈ (slab k).set ↔ (i 1).val / 256 = k.val := by
  rw [Rect.mem_set_unit, Fin.forall_fin_succ, Fin.forall_fin_two]
  have h0 : (i 0).val < 1 := (i 0).isLt
  have h1 : (i 1).val < 1024 := (i 1).isLt
  have h2 : (i 2).val < 1024 := (i 2).isLt
  show (0 ≤ (i 0).val ∧ (i 0).val < 0 + 1) ∧ (256 * k.val ≤ (i 1).val ∧ (i 1).val < 256 * k.val + 256)
    ∧ (0 ≤ (i 2).val ∧ (i 2).val < 0 + 1024) ↔ _
  omega

/-- The groups cover and do not meet. -/
theorem rows_cover : (Finset.univ : Finset (Fin 4)).biUnion (fun k => (rows k).set) = Finset.univ := by
  refine Finset.eq_univ_of_forall fun i => Finset.mem_biUnion.mpr ⟨⟨(i 0).val / 256, ?_⟩, Finset.mem_univ _, (mem_rows _ i).mpr rfl⟩
  have h0 : (i 0).val < 1024 := (i 0).isLt
  omega
theorem slab_cover : (Finset.univ : Finset (Fin 4)).biUnion (fun k => (slab k).set) = Finset.univ := by
  refine Finset.eq_univ_of_forall fun i => Finset.mem_biUnion.mpr ⟨⟨(i 1).val / 256, ?_⟩, Finset.mem_univ _, (mem_slab _ i).mpr rfl⟩
  have h0 : (i 1).val < 1024 := (i 1).isLt
  omega
theorem rows_apart (k k' : Fin 4) (h : k ≠ k') : Disjoint (rows k).set (rows k').set :=
  Finset.disjoint_left.mpr fun i hi hi' => h (Fin.ext (((mem_rows k i).mp hi).symm.trans ((mem_rows k' i).mp hi')))
theorem slab_apart (k k' : Fin 4) (h : k ≠ k') : Disjoint (slab k).set (slab k').set :=
  Finset.disjoint_left.mpr fun i hi hi' => h (Fin.ext (((mem_slab k i).mp hi).symm.trans ((mem_slab k' i).mp hi')))

theorem mem_set_place {s : Shape} {r : Rect s} {i : s.Idx} (h : i ∈ r.set) : ∃ j, r.emb j = i := by
  rw [← Rect.map_emb_univ] at h
  obtain ⟨j, -, hj⟩ := Finset.mem_map.mp h
  exact ⟨j, hj⟩

/-! ## The memrefs -/

abbrev xM : Memref sig .tc .vmem S1x1024x1024 .f32 := Memref.whole cc0_stg0_0
abbrev tM : Memref sig .tc .smem S4 .i32 := Memref.whole cc0_stg1_0
abbrev oM : Memref sig .tc .vmem S1x1024x1024 .f32 := Memref.whole cc0_stg2_0
abbrev sM : Memref sig .tc .vmem S1024x1024 .bf16 := Memref.whole cc0_scratch0
abbrev rM : Memref sig .tc .vmem S1024x1024 .bf16 := Memref.whole cc0_scratch1

/-- Row group `k` of the send buffer and of the landing buffer, as a transfer names them. -/
abbrev sPart (k : Fin 4) : Memref sig .tc .vmem S256x1024 .bf16 := sM.slice (rows k) (fun _ => rfl)
abbrev rPart (k : Fin 4) : Memref sig .tc .vmem S256x1024 .bf16 := rM.slice (rows k) (fun _ => rfl)

theorem sPart_set (k : Fin 4) : (sPart k).view.set = (rows k).set := View.set_slice_whole cc0_scratch0 (rows k)
theorem rPart_set (k : Fin 4) : (rPart k).view.set = (rows k).set := View.set_slice_whole cc0_scratch1 (rows k)

/-! ## Contents -/

/-- A staged block narrowed, as a scratch buffer holds it. -/
def lows (X : (cc0_stg0_0 : Ref sig .tc).ty.Contents (Elt F)) : S1024x1024.Idx → F .bf16 :=
  fun i => FloatOps.truncf .bf16 bitsLt_bf16_f32 (X (ix3 (0 : Fin 1) (i 0 : Fin 1024) (i 1 : Fin 1024)) : F .f32)
/-- A scratch buffer widened, as the result block holds it. -/
def highs (Y : S1024x1024.Idx → F .bf16) : (cc0_stg2_0 : Ref sig .tc).ty.Contents (Elt F) :=
  fun i => FloatOps.extf .f32 bitsLt_bf16_f32 (Y (ix2 (i 1 : Fin 1024) (i 2 : Fin 1024)))

/-- The narrowing store of group `k` writes the narrowed block there. -/
theorem store_lows (k : Fin 4) (f : (cc0_scratch0 : Ref sig .tc).ty.Contents (Elt F)) (X : (cc0_stg0_0 : Ref sig .tc).ty.Contents (Elt F)) :
    ∀ i ∈ (rows k).set, (sM.access (rows k) : View sig .tc _ _ _).write (Elt F) f
      (k0_pay2 (xM.view.readAt (Elt F) (slab k).toLoadRect X)) Finset.univ i = lows X i := by
  intro i hi
  obtain ⟨j, rfl⟩ := mem_set_place hi
  refine (View.write_emb_of_mem (v := (sM.access (rows k) : View sig .tc _ _ _)) (Val := Elt F) f _ (Finset.mem_univ j)).trans ?_
  have hj : j = ix2 (j 0 : Fin 256) (j 1 : Fin 1024) := eq_ix2 j
  show k0_pay2 (xM.view.readAt (Elt F) (slab k).toLoadRect X) j = _
  unfold k0_pay2 lows
  rw [shapeCast_self, hj]
  show FloatOps.truncf .bf16 bitsLt_bf16_f32 (shapeCast S256x1024 (xM.view.readAt (Elt F) (slab k).toLoadRect X) shapeCasts_S1x256x1024_S256x1024
    (ix2 (j 0 : Fin 256) (j 1 : Fin 1024)) : F .f32) = _
  refine congrArg _ ((shapeCast_1ab_ab_apply (a := 256) (b := 1024) _ _ _ _).trans ?_)
  show X ((slab k).emb (ix3 (0 : Fin 1) (j 0 : Fin 256) (j 1 : Fin 1024))) = _
  refine congrArg X (funext fun a => Fin.ext ?_)
  fin_cases a <;> simp [Rect.emb_apply]

/-- The widening store of group `k` writes the widened buffer there. -/
theorem store_highs (k : Fin 4) (f : (cc0_stg2_0 : Ref sig .tc).ty.Contents (Elt F)) (Y : (cc0_scratch1 : Ref sig .tc).ty.Contents (Elt F)) :
    ∀ i ∈ (slab k).set, (oM.access (slab k) : View sig .tc _ _ _).write (Elt F) f
      (k0_pay7 (rM.view.readAt (Elt F) (rows k).toLoadRect Y)) Finset.univ i = highs Y i := by
  intro i hi
  obtain ⟨j, rfl⟩ := mem_set_place hi
  refine (View.write_emb_of_mem (v := (oM.access (slab k) : View sig .tc _ _ _)) (Val := Elt F) f _ (Finset.mem_univ j)).trans ?_
  have hj : j = ix3 (j 0 : Fin 1) (j 1 : Fin 256) (j 2 : Fin 1024) := eq_ix3 j
  show k0_pay7 (rM.view.readAt (Elt F) (rows k).toLoadRect Y) j = _
  unfold k0_pay7 highs
  rw [hj]
  refine (shapeCast_ab_1ab_apply (a := 256) (b := 1024) _ _ _ _ _).trans ?_
  refine congrArg (FloatOps.extf .f32 bitsLt_bf16_f32) ?_
  show Y ((rows k).emb (ix2 (j 1 : Fin 256) (j 2 : Fin 1024))) = _
  refine congrArg Y (funext fun a => Fin.ext ?_)
  fin_cases a <;> simp [Rect.emb_apply] <;> rfl

/-- A transfer of group `k` leaves there what the sender's group held. -/
theorem landed (k : Fin 4) (fd : (cc0_scratch1 : Ref sig .tc).ty.Contents (Elt F)) (f : (cc0_scratch0 : Ref sig .tc).ty.Contents (Elt F)) :
    ∀ i ∈ (rPart k).view.set, (rPart k).view.write (Elt F) fd ((sPart k).view.read (Elt F) f) Finset.univ i = f i := by
  intro i hi
  rw [rPart_set] at hi
  obtain ⟨j, rfl⟩ := mem_set_place hi
  exact View.write_emb_of_mem (v := (rPart k).view) (Val := Elt F) fd _ (Finset.mem_univ j)

end Cert.Shuffle

end
-- ==== Proof.Cells.lean ====
/-
# The protocol's semaphores

Each device has nine semaphores of the protocol: its barrier semaphore, which gathers one unit from each of the two
devices it deals with, and for every row group one send and one receive semaphore. This file says what each of them is
paid with and by whom (a schedule of one round), what a device still has to pay as it goes, and in which order the
semaphores may be waited for.
-/
module

public import proofs.«01_k».proof.Proof.Route
public import proofs.«01_k».proof.Proof.Rows
public import Idealize.ShloMosaic.Lib.Pipeline.Launch

@[expose] public section

noncomputable section

namespace Cert.Shuffle

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's own rounds beside the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- Which of a device's nine semaphores: the barrier, or a row group's send (`false`) or receive (`true`) semaphore. -/
abbrev Which : Type := Option (Bool × Fin 4)

theorem one_inb (k : Fin 4) : ∀ a, (![k.val] : Fin 1 → Nat) a + S1.size a ≤ S4.size a := by
  revert k; decide

abbrev barS : Sem sig := (SemArray.scalar (sig.barrier 0 rfl) : Sems sig S_).sem
abbrev sndS (k : Fin 4) : DmaSem sig :=
  ((cc0_scratch2.slice (Rect.unit (s := S4) ![k.val] S1.size (one_inb k))).squeeze S_ squeezes_S1_S_).sem
abbrev rcvS (k : Fin 4) : DmaSem sig :=
  ((cc0_scratch3.slice (Rect.unit (s := S4) ![k.val] S1.size (one_inb k))).squeeze S_ squeezes_S1_S_).sem

abbrev ownSem : Bool × Fin 4 → SemLoc sig := fun bk => if bk.1 then .dma (rcvS bk.2) else .dma (sndS bk.2)
abbrev semOf : Which → SemLoc sig
  | none => .reg barS
  | some bk => ownSem bk

/-- The semaphore's use in the protocol, if it has one. -/
def useOf (s : SemLoc sig) : Option Which :=
  [none, some (false, 0), some (false, 1), some (false, 2), some (false, 3),
    some (true, 0), some (true, 1), some (true, 2), some (true, 3)].find? fun w => decide (semOf w = s)

theorem useOf_semOf : ∀ w : Which, useOf (semOf w) = some w := by decide +kernel

theorem semOf_injective : Function.Injective semOf := fun a b h => by
  have h2 := useOf_semOf b
  rw [← h, useOf_semOf] at h2
  exact Option.some.inj h2

abbrev cell (c : Dev nD) (w : Which) : GSem nD τ sig := ((c : Thread nD τ), semOf w)

theorem cell_eq_iff {c d : Dev nD} {v w : Which} : cell c v = cell d w ↔ c = d ∧ v = w :=
  ⟨fun h => ⟨Fin.ext (congrArg (fun g : GSem nD τ sig => g.1.1.val) h), semOf_injective (congrArg Prod.snd h)⟩,
    fun h => by rw [h.1, h.2]⟩

/-- What a row group's transfer adds to its semaphores. -/
abbrev unitsPer : ℕ := (rPart 0).view.dmaCredit
theorem unitsPer_pos : 0 < unitsPer := View.dmaCredit_pos _ (by decide)

/-! ## Holdings -/

/-- Row group `k` of device `c`'s send buffer, landing buffer, result block, at contents `f`. -/
def sendAt (c : Dev nD) (k : Fin 4) (f : (cc0_scratch0 : Ref sig .tc).ty.Contents (Elt F)) : sProp 𝕄 :=
  ((c : Thread nD τ).loc cc0_scratch0) ↦[(rows k).set]{fullShare} f
def landAt (c : Dev nD) (k : Fin 4) (f : (cc0_scratch1 : Ref sig .tc).ty.Contents (Elt F)) : sProp 𝕄 :=
  ((c : Thread nD τ).loc cc0_scratch1) ↦[(rows k).set]{fullShare} f
def outAt (c : Dev nD) (k : Fin 4) (f : (cc0_stg2_0 : Ref sig .tc).ty.Contents (Elt F)) : sProp 𝕄 :=
  ((c : Thread nD τ).loc cc0_stg2_0) ↦[(slab k).set]{fullShare} f

omit [FloatOps F] in
/-- The same, as a transfer names the group. -/
theorem sendAt_part (c : Dev nD) (k : Fin 4) (f : (cc0_scratch0 : Ref sig .tc).ty.Contents (Elt F)) :
    (sendAt c k f : sProp 𝕄) = (((sPart k).view.loc (c : Thread nD τ)) ↦[(sPart k).view.set]{fullShare} f) := by
  rw [sPart_set]; rfl
omit [FloatOps F] in
theorem landAt_part (c : Dev nD) (k : Fin 4) (f : (cc0_scratch1 : Ref sig .tc).ty.Contents (Elt F)) :
    (landAt c k f : sProp 𝕄) = (((rPart k).view.loc (c : Thread nD τ)) ↦[(rPart k).view.set]{fullShare} f) := by
  rw [rPart_set]; rfl

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A whole buffer is its parts, for any four parts that cover it and do not meet. -/
theorem four_parts {ℓ : Loc nD τ sig} (P : Fin 4 → Finset (Idx ℓ)) (hc : Finset.univ.biUnion P = Finset.univ)
    (hd : ∀ k k', k ≠ k' → Disjoint (P k) (P k')) (f : Buf (Elt F) ℓ) :
    ((ℓ ↦{fullShare} f) : sProp 𝕄)
      = iprop((ℓ ↦[P 0]{fullShare} f) ∗ (ℓ ↦[P 1]{fullShare} f) ∗ (ℓ ↦[P 2]{fullShare} f) ∗ (ℓ ↦[P 3]{fullShare} f)) := by
  rw [← bigSep_four (fun k => (ℓ ↦[P k]{fullShare} f : sProp 𝕄))]
  refine Eq.trans ?_ (pointsTo_biUnion Finset.univ P fun k _ k' _ h => hd k k' h)
  rw [hc]

omit [FloatOps F] in
theorem send_groups (c : Dev nD) (f : (cc0_scratch0 : Ref sig .tc).ty.Contents (Elt F)) :
    ((((c : Thread nD τ).loc cc0_scratch0) ↦{fullShare} f) : sProp 𝕄)
      = iprop(sendAt c 0 f ∗ sendAt c 1 f ∗ sendAt c 2 f ∗ sendAt c 3 f) :=
  four_parts (ℓ := (c : Thread nD τ).loc cc0_scratch0) (fun k => (rows k).set) rows_cover rows_apart f
omit [FloatOps F] in
theorem land_groups (c : Dev nD) (f : (cc0_scratch1 : Ref sig .tc).ty.Contents (Elt F)) :
    ((((c : Thread nD τ).loc cc0_scratch1) ↦{fullShare} f) : sProp 𝕄)
      = iprop(landAt c 0 f ∗ landAt c 1 f ∗ landAt c 2 f ∗ landAt c 3 f) :=
  four_parts (ℓ := (c : Thread nD τ).loc cc0_scratch1) (fun k => (rows k).set) rows_cover rows_apart f
omit [FloatOps F] in
theorem out_groups (c : Dev nD) (f : (cc0_stg2_0 : Ref sig .tc).ty.Contents (Elt F)) :
    ((((c : Thread nD τ).loc cc0_stg2_0) ↦{fullShare} f) : sProp 𝕄)
      = iprop(outAt c 0 f ∗ outAt c 1 f ∗ outAt c 2 f ∗ outAt c 3 f) :=
  four_parts (ℓ := (c : Thread nD τ).loc cc0_stg2_0) (fun k => (slab k).set) slab_cover slab_apart f

/-- A device's whole landing buffer, holding anything. -/
def landFree (c : Dev nD) : sProp 𝕄 := iprop(∃ f, ((c : Thread nD τ).loc cc0_scratch1) ↦{fullShare} f)

/-! ## The schedule -/

variable (π : Equiv.Perm (Fin 4)) (x : Dev nD → (cc0_stg0_0 : Ref sig .tc).ty.Contents (Elt F))

/-- What device `c` sends, narrowed. -/
abbrev sent (c : Dev nD) : S1024x1024.Idx → F .bf16 := lows (x c)

/-- What a payment into device `c`'s semaphore brings: into the barrier, the device that `c` sends to hands over its
    landing buffer (`true`) and the device that sends to `c` nothing (`false`); into a send semaphore, the group sent;
    into a receive semaphore, the group landed. -/
def brings (c : Dev nD) : Which → Bool → sProp 𝕄
  | none, true => landFree (nxt π c)
  | none, false => iprop(emp)
  | some (false, k), _ => sendAt c k (sent x c)
  | some (true, k), _ => landAt c k (sent x (prv π c))

instance brings_storable (c : Dev nD) (w : Which) (d : Bool) : BI.Storable (upEmb : UEmb _ 𝕄) (brings π x c w d) := by
  rcases w with _ | ⟨_ | _, k⟩ <;> cases d <;> unfold brings <;>
    first | (unfold landFree; infer_instance) | (unfold sendAt; infer_instance) | (unfold landAt; infer_instance) | infer_instance

/-- The payments a use expects. -/
def paidBy : Option Which → Finset Bool
  | none => ∅
  | some none => Finset.univ
  | some (some _) => {false}

/-- How much one payment is. -/
def size : Option Which → ℕ
  | some (some _) => unitsPer
  | _ => 1

/-- One round: a barrier takes two payments of one unit, a send or receive semaphore one payment of a group's units. -/
def plan : Rounds.Schedule (GSem nD τ sig) Bool 𝕄 where
  duties g r := if r = 0 ∧ g.1.2 = .tc then paidBy (useOf g.2) else ∅
  unitless _ := False
  amount g _ _ := size (useOf g.2)
  payload g _ d := match useOf g.2 with
    | none => iprop(emp)
    | some w => brings π x g.1.1 w d
  amount_pos g _ _ _ := by
    rcases useOf g.2 with _ | _ | _
    · exact Nat.one_pos
    · exact Nat.one_pos
    · exact unitsPer_pos

instance plan_payload_storable (g : GSem nD τ sig) (r : ℕ) (d : Bool) :
    BI.Storable (upEmb : UEmb _ 𝕄) ((plan π x).payload g r d) := by
  show BI.Storable upEmb (match useOf g.2 with | none => iprop(emp) | some w => brings π x g.1.1 w d)
  split <;> infer_instance

section Plan
variable (c : Dev nD) (w : Which) (bk : Bool × Fin 4)

theorem plan_duties : (plan π x).duties (cell c w) 0 = paidBy (some w) := by
  dsimp only [plan]; rw [if_pos ⟨rfl, rfl⟩, useOf_semOf]
theorem plan_later (g : GSem nD τ sig) : ∀ r, 1 ≤ r → (plan π x).duties g r = ∅ :=
  fun r hr => by dsimp only [plan]; exact if_neg fun h => by omega
theorem plan_amount (d : Bool) : (plan π x).amount (cell c w) 0 d = size (some w) := by
  dsimp only [plan]; rw [useOf_semOf]
theorem plan_payload (d : Bool) : (plan π x).payload (cell c w) 0 d = brings π x c w d := by
  dsimp only [plan]; rw [useOf_semOf]

theorem expect_bar : (plan π x).expect (cell c none) 0 = 2 := by
  unfold Schedule.expect Schedule.amountOf
  rw [plan_duties, Finset.sum_congr rfl fun d _ => plan_amount π x c none d]; rfl
theorem expect_own : (plan π x).expect (cell c (some bk)) 0 = unitsPer := by
  unfold Schedule.expect Schedule.amountOf
  rw [plan_duties, Finset.sum_congr rfl fun d _ => plan_amount π x c (some bk) d]
  exact Finset.sum_singleton _ _

/-- The whole round of a barrier brings the landing buffer of the device sent to, -/
theorem round_bar : bigSep ((plan π x).duties (cell c none) 0 \ ∅) (fun d => (plan π x).payload (cell c none) 0 d)
    = iprop(emp ∗ landFree (nxt π c)) := by
  rw [Finset.sdiff_empty, plan_duties, show paidBy (some none) = Finset.univ from rfl,
    bigSep_univ_eq_bigSepL [false, true] (by decide) (by decide), bigSepL_cons_cons, bigSepL_singleton, plan_payload, plan_payload]
  rfl
/-- that of another semaphore its one payment. -/
theorem round_own : bigSep ((plan π x).duties (cell c (some bk)) 0 \ ∅) (fun d => (plan π x).payload (cell c (some bk)) 0 d)
    = brings π x c (some bk) false := by
  rw [Finset.sdiff_empty, plan_duties, show paidBy (some (some bk)) = {false} from rfl, bigSep_singleton, plan_payload]

end Plan

/-! ## What a device still owes -/

/-- The units of the transfer of group `k` from `c`. -/
def due1 (c : Dev nD) (k : Fin 4) : CellTallies nD τ sig Unit := tallyAt (cell (nxt π c) (some (true, k))) () unitsPer
/-- The transfers of the groups from `j` on. -/
def due (c : Dev nD) (j : ℕ) : CellTallies nD τ sig Unit := ∑ k ∈ Finset.univ.filter (fun k : Fin 4 => j ≤ k.val), due1 π c k
/-- Those of all groups, and a unit for the barrier of the device `c` receives from; -/
def dueB (c : Dev nD) : CellTallies nD τ sig Unit := due π c 0 + tallyAt (cell (prv π c) none) () 1
/-- and at launch one for that of the device it sends to, too. -/
def dueAll (c : Dev nD) : CellTallies nD τ sig Unit := dueB π c + tallyAt (cell (nxt π c) none) () 1

theorem due_step (c : Dev nD) (k : Fin 4) : due π c k.val = due π c (k.val + 1) + due1 π c k := by
  unfold due
  have h : Finset.univ.filter (fun k' : Fin 4 => k.val ≤ k'.val) = insert k (Finset.univ.filter (fun k' : Fin 4 => k.val + 1 ≤ k'.val)) := by
    revert k; decide
  rw [h, Finset.sum_insert (by simp), add_comm]

theorem due_end (c : Dev nD) : due π c 4 = 0 := by
  unfold due
  rw [show Finset.univ.filter (fun k' : Fin 4 => 4 ≤ k'.val) = ∅ by decide, Finset.sum_empty]

theorem due_apply (c : Dev nD) (j : ℕ) (g : GSem nD τ sig) (u : Unit) :
    due π c j g u = ∑ k ∈ Finset.univ.filter (fun k : Fin 4 => j ≤ k.val), due1 π c k g u := by
  unfold due
  rw [Finset.sum_apply, Finsupp.finset_sum_apply]

theorem due_pos {c : Dev nD} {j : ℕ} {g : GSem nD τ sig} {u : Unit} (h : 0 < due π c j g u) :
    ∃ k : Fin 4, g = cell (nxt π c) (some (true, k)) := by
  rw [due_apply] at h
  by_contra hn
  refine Nat.lt_irrefl 0 (h.trans_eq (Finset.sum_eq_zero fun k _ => ?_))
  unfold due1
  rw [tallyAt_apply, if_neg fun h' => hn ⟨k, h'.1⟩]

theorem dueAll_pos {c : Dev nD} {g : GSem nD τ sig} {u : Unit} (h : 0 < dueAll π c g u) :
    ∃ (d : Dev nD) (w : Which), g = cell d w ∧ ∀ k, w ≠ some (false, k) := by
  unfold dueAll dueB at h
  rw [Pi.add_apply, Finsupp.add_apply, Pi.add_apply, Finsupp.add_apply, tallyAt_apply, tallyAt_apply] at h
  by_contra hn
  have h1 : ¬ 0 < due π c 0 g u := fun h' => by
    obtain ⟨k, rfl⟩ := due_pos π h'
    exact hn ⟨_, _, rfl, fun _ h => by cases h⟩
  have h2 : ∀ d : Dev nD, ¬ (g = cell d none ∧ u = ()) := fun d h' => hn ⟨d, none, h'.1, fun _ h => by cases h⟩
  rw [if_neg (h2 _), if_neg (h2 _)] at h
  omega

/-! ## The order of waiting -/

/-- The semaphores that may be owed: those of the devices' cores. -/
def L (g : GSem nD τ sig) : Finset Unit := if g.1.2 = .tc then {()} else ∅
/-- Barriers come before receive semaphores, everything else before both. -/
def rank : Option Which → ℕ
  | some none => 1
  | some (some (true, _)) => 2
  | _ => 0
def lv (g : GSem nD τ sig) (_ : Unit) : ℕ := rank (useOf g.2)

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (w : Which) (u : Unit) : lv (cell c w) u = rank (some w) := by
  unfold lv; rw [useOf_semOf]

omit [FloatOps F] in
/-- A semaphore outside the protocol may be waited for at launch's debts and at none. -/
theorem mayWait_stage (c : Dev nD) (q : DmaSem sig) (hq : useOf (.dma q) = none) (O : CellTallies nD τ sig Unit)
    (hO : O = dueAll π c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · obtain ⟨d, w, rfl, -⟩ := dueAll_pos π hg
      rw [L_tc]; exact Finset.mem_singleton_self _
    · rw [Finset.mem_singleton.mp hp]; unfold lv; dsimp only; rw [hq]; exact Nat.le_refl 0
    · obtain ⟨d, w, rfl, hw⟩ := dueAll_pos π hg
      rw [lv_cell]
      rcases w with _ | ⟨_ | _, k⟩
      · exact Nat.one_pos
      · exact absurd rfl (hw k)
      · exact Nat.two_pos
  · rw [MayWait_zero]; iintro -; iempintro

omit [FloatOps F] in
/-- At its barrier a device owes transfers only. -/
theorem mayWait_bar (c : Dev nD) : (levAts L lv : sProp 𝕄) ⊢ MayWait (c : Thread nD τ) (.reg barS) () (due π c 0) := by
  refine MayOwe.of_cut (L := L) (lev := lv) 1 (fun p hp => by rw [Finset.mem_singleton.mp hp, L_tc]; exact Finset.mem_singleton_self _)
    (fun g u hg => ?_) (fun p hp => ?_) (fun g u hg => ?_)
  · obtain ⟨k, rfl⟩ := due_pos π hg
    rw [L_tc]; exact Finset.mem_singleton_self _
  · rw [Finset.mem_singleton.mp hp]; exact Nat.le_of_eq (lv_cell c none ())
  · obtain ⟨k, rfl⟩ := due_pos π hg
    rw [lv_cell]; exact Nat.one_lt_two

end Cert.Shuffle

end
-- ==== Proof.Steps.lean ====
/-
# The kernel's steps

One lemma for each thing the kernel does to a row group: narrow it into the send buffer, transfer it, wait for one of its
semaphores, widen what landed into the result block; and for its two handshake signals and the wait between. Each is
stated at a variable group and the kernel's operations at variable operands that equal the expected ones, so that the
kernel's four groups are four uses of one lemma.
-/
module

public import proofs.«01_k».proof.Proof.Cells
public import Idealize.ShloMosaic.Lib.Tactic

@[expose] public section

noncomputable section

namespace Cert.Shuffle

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (π : Equiv.Perm (Fin 4)) (x : Dev nD → (cc0_stg0_0 : Ref sig .tc).ty.Contents (Elt F))
variable (K : Dev nD × Which → ℕ)

/-- What every device may use: each protocol semaphore's invariant, and that its only round has begun. -/
def records : sProp 𝕄 :=
  iprop((bigSep Finset.univ fun cw : Dev nD × Which => cellInv ER (plan π x) (K cw) (cell cw.1 cw.2))
    ∗ bigSep Finset.univ fun cw : Dev nD × Which => reached ER (cell cw.1 cw.2) 0)

instance records_persistent : BI.Persistent (records π x K) := by unfold records; infer_instance

theorem records_inv (c : Dev nD) (w : Which) : records π x K ⊢ cellInv ER (plan π x) (K (c, w)) (cell c w) := by
  have h : (bigSep Finset.univ fun cw : Dev nD × Which => (cellInv ER (plan π x) (K cw) (cell cw.1 cw.2) : sProp 𝕄))
      ⊢ cellInv ER (plan π x) (K (c, w)) (cell c w) := bigSep_elim (Finset.mem_univ (c, w))
  unfold records
  iintro ⟨H, -⟩
  iapply h; iexact H
theorem records_reached (c : Dev nD) (w : Which) : records π x K ⊢ reached ER (cell c w) 0 := by
  have h : (bigSep Finset.univ fun cw : Dev nD × Which => (reached ER (cell cw.1 cw.2) 0 : sProp 𝕄))
      ⊢ reached ER (cell c w) 0 := bigSep_elim (Finset.mem_univ (c, w))
  unfold records
  iintro ⟨-, H⟩
  iapply h; iexact H

variable (c : Dev nD) (k : Fin 4)

/-- That device `c`'s core runs a program to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c`'s staged block, held whole. -/
def blockAt (X : (cc0_stg0_0 : Ref sig .tc).ty.Contents (Elt F)) : sProp 𝕄 := ((c : Thread nD τ).loc cc0_stg0_0) ↦{fullShare} X

/-- Narrowing a group: its rows of the block are loaded, the send buffer's too (unused), and the narrowed rows stored. -/
theorem wp_narrow {o3 : Fin 3 → ℕ} {o2 : Fin 2 → ℕ} (h3 : o3 = ![0, 256 * k.val, 0]) (h2 : o2 = ![256 * k.val, 0])
    {i3 i2} {hl : xM.view.LoadsAt (Rect.unit (s := S1x1024x1024) o3 S1x256x1024.size i3).toLoadRect}
    {hl' : sM.view.LoadsAt (Rect.unit (s := S1024x1024) o2 S256x1024.size i2).toLoadRect}
    {hs hm} {α : Type} {Q : α → sProp 𝕄} {n : PUnit → Prog (TpuEff nD τ sig (Elt F) Λ₀ .tc) α} (X f) :
    iprop(blockAt c X ∗ sendAt c k f)
      ⊢ iprop(((blockAt c X ∗ sendAt c k (lows X)) -∗ runs c (n ⟨⟩) Q)
          -∗ runs c (.op (.load xM (Rect.unit (s := S1x1024x1024) o3 S1x256x1024.size i3).toLoadRect hl) fun v =>
              .op (.load sM (Rect.unit (s := S1024x1024) o2 S256x1024.size i2).toLoadRect hl') fun _ =>
                .op (.store sM (Rect.unit (s := S1024x1024) o2 S256x1024.size i2) (k0_pay2 v) Finset.univ hs hm) n) Q) := by
  subst h3 h2
  have hin : (sM.access (rows k) : View sig .tc _ _ _).set ⊆ (rows k).set := (sPart_set k).le
  unfold blockAt sendAt
  iintro ⟨Hx, Hs⟩ Hk
  iapply (wp_load 𝒱₀ (c : Thread nD τ) none Set.univ (m := xM) (Finset.subset_univ _)) $$ Hx; iintro Hx
  iapply (wp_load_rect 𝒱₀ (c : Thread nD τ) none Set.univ (m := sM) (r := rows k) hin) $$ Hs; iintro Hs
  iapply (wp_store 𝒱₀ (c : Thread nD τ) none Set.univ (m := sM) (r := rows k) (Mk := Finset.univ) hin) $$ Hs; iintro Hs
  ihave Hs' := (Entails.of_eq (pointsTo_congr (store_lows k f X))) $$ Hs
  iapply Hk
  isplitl [Hx] <;> iassumption

/-- Widening a group: its landed rows are loaded, the result block's too (unused), and the widened rows stored. -/
theorem wp_widen {o3 : Fin 3 → ℕ} {o2 : Fin 2 → ℕ} (h3 : o3 = ![0, 256 * k.val, 0]) (h2 : o2 = ![256 * k.val, 0])
    {i3 i2} {hl : rM.view.LoadsAt (Rect.unit (s := S1024x1024) o2 S256x1024.size i2).toLoadRect}
    {hl' : oM.view.LoadsAt (Rect.unit (s := S1x1024x1024) o3 S1x256x1024.size i3).toLoadRect}
    {hs hm} {α : Type} {Q : α → sProp 𝕄} {n : PUnit → Prog (TpuEff nD τ sig (Elt F) Λ₀ .tc) α} (Y f) :
    iprop(landAt c k Y ∗ outAt c k f)
      ⊢ iprop(((landAt c k Y ∗ outAt c k (highs Y)) -∗ runs c (n ⟨⟩) Q)
          -∗ runs c (.op (.load rM (Rect.unit (s := S1024x1024) o2 S256x1024.size i2).toLoadRect hl) fun v =>
              .op (.load oM (Rect.unit (s := S1x1024x1024) o3 S1x256x1024.size i3).toLoadRect hl') fun _ =>
                .op (.store oM (Rect.unit (s := S1x1024x1024) o3 S1x256x1024.size i3) (k0_pay7 v) Finset.univ hs hm) n) Q) := by
  subst h3 h2
  have hin : (rM.access (rows k) : View sig .tc _ _ _).set ⊆ (rows k).set := (rPart_set k).le
  have hout : (oM.access (slab k) : View sig .tc _ _ _).set ⊆ (slab k).set := (View.set_slice_whole cc0_stg2_0 (slab k)).le
  unfold landAt outAt
  iintro ⟨Hr, Ho⟩ Hk
  iapply (wp_load_rect 𝒱₀ (c : Thread nD τ) none Set.univ (m := rM) (r := rows k) hin) $$ Hr; iintro Hr
  iapply (wp_load_rect 𝒱₀ (c : Thread nD τ) none Set.univ (m := oM) (r := slab k) hout) $$ Ho; iintro Ho
  iapply (wp_store 𝒱₀ (c : Thread nD τ) none Set.univ (m := oM) (r := slab k) (Mk := Finset.univ) hout) $$ Ho; iintro Ho
  ihave Ho' := (Entails.of_eq (pointsTo_congr (store_highs k f Y))) $$ Ho
  iapply Hk
  isplitl [Hr] <;> iassumption

/-- A group's transfer to the device `c` sends to: what is owed goes down by that group, and the group's send semaphore
    may be waited for. -/
theorem wp_transfer {d : Dev nD} (hd : d = nxt π c) {src dst : Memref sig .tc .vmem S256x1024 .bf16} (hsrc : src = sPart k) (hdst : dst = rPart k)
    {sS rS : DmaSem sig} (hsS : sS = sndS k) (hrS : rS = rcvS k) {hsc} {h₁ h₂}
    {h₃ : DmaTarget.Typed .vmem (.dma rS) (.remote (Dev.tc d : Thread nD τ) dst (.dma sS) hsc)}
    {α : Type} {Q : α → sProp 𝕄} {n : PUnit → Prog (TpuEff nD τ sig (Elt F) Λ₀ .tc) α} (fd : (cc0_scratch1 : Ref sig .tc).ty.Contents (Elt F)) (W : Waits sig Unit) :
    iprop(records π x K ∗ sendAt c k (sent x c) ∗ landAt (nxt π c) k fd ∗ owes (c : Thread nD τ) (due π c k.val) W
        ∗ dutyTok ER (cell c (some (false, k))) 0 false ∗ dutyTok ER (cell (nxt π c) (some (true, k))) 0 false)
      ⊢ iprop(((cred (tallyAt (cell c (some (false, k))) () unitsPer) ∗ owes (c : Thread nD τ) (due π c (k.val + 1)) W) -∗ runs c (n ⟨⟩) Q)
          -∗ runs c (.op (.enqueueDma src (.remote (Dev.tc d : Thread nD τ) dst (.dma sS) hsc) (.dma rS) h₁ h₂ h₃) n) Q) := by
  subst hd hsrc hdst hsS hrS
  rw [sendAt_part, landAt_part]
  iintro ⟨#HI, Hs, Hd, HO, HtS, HtR⟩ Hk
  iapply (Rounds.wp_send_pointsTo 𝒱₀ ER (plan π x) (c : Thread nD τ) none (κ₁ := K (c, some (false, k))) (κ₂ := K (nxt π c, some (true, k)))
    (r₁ := 0) (r₂ := 0) (d₁ := false) (d₂ := false) (fs := sent x c) (fd := fd) (src := sPart k) (dst := rPart k) (sS := .dma (sndS k)) (sem := .dma (rcvS k))
    (c' := (nxt π c : Thread nD τ))
    ((plan_duties π x c (some (false, k))).symm ▸ Finset.mem_singleton_self false)
    ((plan_duties π x (nxt π c) (some (true, k))).symm ▸ Finset.mem_singleton_self false)
    () () unitsPer rfl (plan_amount π x c (some (false, k)) false) (plan_amount π x (nxt π c) (some (true, k)) false)
    (due π c (k.val + 1)) (due_step π c k) (W := W)
    (Entails.of_eq (by
      refine Eq.trans ?_ (plan_payload π x c (some (false, k)) false).symm
      exact (sendAt_part c k (sent x c)).symm))
    (Entails.of_eq (by
      refine Eq.trans ?_ (plan_payload π x (nxt π c) (some (true, k)) false).symm
      refine Eq.trans ?_ (congrArg (fun d => landAt (nxt π c) k (sent x d)) (prv_nxt π c).symm)
      rw [landAt_part]
      exact pointsTo_congr (landed k fd (sent x c))))) $$ [Hs Hd HO HtS HtR]
  · isplitr; · iapply (records_inv π x K c (some (false, k))); iexact HI
    isplitr; · iapply (records_inv π x K (nxt π c) (some (true, k))); iexact HI
    isplitl [Hs]; · iexact Hs
    isplitl [Hd]; · iexact Hd
    isplitl [HO]; · iexact HO
    isplitl [HtS]; · iexact HtS
    isplitr; · iapply (records_reached π x K c (some (false, k))); iexact HI
    isplitl [HtR]; · iexact HtR
    iapply (records_reached π x K (nxt π c) (some (true, k))); iexact HI
  iexact Hk

/-- The wait for one of a group's own semaphores, after everything owed is paid: its payment comes, and the semaphore is
    done with, at zero. -/
theorem wp_await (b : Bool) {s : DmaSem sig} (hs : ownSem (b, k) = .dma s) {src dst : Memref sig .tc .vmem S256x1024 .bf16} {h₁ h₂}
    (hu : dst.view.dmaCredit = unitsPer) {α : Type} {Q : α → sProp 𝕄} {n : PUnit → Prog (TpuEff nD τ sig (Elt F) Λ₀ .tc) α} (W : Waits sig Unit) :
    iprop(records π x K ∗ cred (tallyAt (cell c (some (b, k))) () unitsPer) ∗ owes (c : Thread nD τ) 0 W ∗ atPos ER (cell c (some (b, k))) 0 ∅ 0)
      ⊢ iprop(((owes (c : Thread nD τ) 0 (insert (ownSem (b, k), ()) W) ∗ brings π x c (some (b, k)) false ∗ semVal (cell c (some (b, k))) 0) -∗ runs c (n ⟨⟩) Q)
          -∗ runs c (.op (.waitDma2 s src dst h₁ h₂) n) Q) := by
  iintro ⟨#HI, Hc, HO, Hat⟩ Hk
  iapply (Rounds.wp_wait_rest_token 𝒱₀ ER (plan π x) (c : Thread nD τ) none (κ := K (c, some (b, k))) (sm := ownSem (b, k)) (k' := unitsPer)
      (fun P => by rw [hs, ← hu]; exact wpE_waitDma2_eq 𝒱₀ (c : Thread nD τ) none Set.univ P) (Set.mem_univ _) () (O := 0) (W := W) (R := 0) (m := 0) (T := ∅)
      ((Nat.zero_add _).trans (expect_own π x c (b, k)).symm)) $$ [Hc HO Hat]
  · isplitr; · iapply (records_inv π x K c (some (b, k))); iexact HI
    isplitl [Hc]; · iexact Hc
    isplitl [HO]; · iexact HO
    isplitr; · rw [MayWait_zero]; iempintro
    iexact Hat
  iintro ⟨HO, Hat, -, Hp⟩
  ihave Hp' := (Entails.of_eq (round_own π x c (b, k))) $$ Hp
  imod (Rounds.cell_close ER (plan π x) (Set.mem_univ (K (c, some (b, k)))) (fun h => h) (R := 0 + 1) (plan_later π x (cell c (some (b, k))))) $$ [Hat] with Hz
  · isplitr; · iapply (records_inv π x K c (some (b, k))); iexact HI
    iexact Hat
  iapply Hk
  isplitl [HO]; · iexact HO
  isplitl [Hp'] <;> iassumption

/-- The first signal, into the barrier of the device `c` sends to, which needs nothing. -/
theorem wp_signal_to {d : Dev nD} (hd : d = nxt π c) {a : ℕ} (ha : a = 1) {α : Type} {Q : α → sProp 𝕄} {n : PUnit → Prog (TpuEff nD τ sig (Elt F) Λ₀ .tc) α} (W : Waits sig Unit) :
    iprop(records π x K ∗ owes (c : Thread nD τ) (dueAll π c) W ∗ dutyTok ER (cell (nxt π c) none) 0 false)
      ⊢ iprop((owes (c : Thread nD τ) (dueB π c) W -∗ runs c (n ⟨⟩) Q) -∗ runs c (.op (.semSignal (Dev.tc d) barS a) n) Q) := by
  subst hd ha
  iintro ⟨#HI, HO, Ht⟩ Hk
  iapply (Rounds.wp_signal 𝒱₀ ER (plan π x) (c : Thread nD τ) none (dst := (nxt π c : Thread nD τ)) (κ := K (nxt π c, none)) (d := false) (r := 0)
      ((plan_duties π x (nxt π c) none).symm ▸ Finset.mem_univ false) (plan_amount π x (nxt π c) none false) () (dueB π c) rfl) $$ [HO Ht]
  · isplitr; · iapply (records_inv π x K (nxt π c) none); iexact HI
    isplitl [HO]; · iexact HO
    isplitl [Ht]; · iexact Ht
    isplitr
    · iapply (Entails.of_eq (plan_payload π x (nxt π c) none false).symm); unfold brings; iempintro
    iapply (records_reached π x K (nxt π c) none); iexact HI
  iexact Hk

/-- The second, into the barrier of the device `c` receives from, which hands over `c`'s landing buffer. -/
theorem wp_signal_from {d : Dev nD} (hd : d = prv π c) {a : ℕ} (ha : a = 1) {α : Type} {Q : α → sProp 𝕄} {n : PUnit → Prog (TpuEff nD τ sig (Elt F) Λ₀ .tc) α} (W : Waits sig Unit) :
    iprop(records π x K ∗ landFree c ∗ owes (c : Thread nD τ) (dueB π c) W ∗ dutyTok ER (cell (prv π c) none) 0 true)
      ⊢ iprop((owes (c : Thread nD τ) (due π c 0) W -∗ runs c (n ⟨⟩) Q) -∗ runs c (.op (.semSignal (Dev.tc d) barS a) n) Q) := by
  subst hd ha
  iintro ⟨#HI, Hl, HO, Ht⟩ Hk
  iapply (Rounds.wp_signal 𝒱₀ ER (plan π x) (c : Thread nD τ) none (dst := (prv π c : Thread nD τ)) (κ := K (prv π c, none)) (d := true) (r := 0)
      ((plan_duties π x (prv π c) none).symm ▸ Finset.mem_univ true) (plan_amount π x (prv π c) none true) () (due π c 0) rfl) $$ [Hl HO Ht]
  · isplitr; · iapply (records_inv π x K (prv π c) none); iexact HI
    isplitl [HO]; · iexact HO
    isplitl [Ht]; · iexact Ht
    isplitl [Hl]
    · iapply (Entails.of_eq (plan_payload π x (prv π c) none true).symm); unfold brings; rw [nxt_prv]; iexact Hl
    iapply (records_reached π x K (prv π c) none); iexact HI
  iexact Hk

/-- The wait for both on its own barrier: the landing buffer of the device `c` sends to comes, and the barrier is done
    with, at zero. -/
theorem wp_gather {a : ℕ} (ha : a = 2) {α : Type} {Q : α → sProp 𝕄} {n : PUnit → Prog (TpuEff nD τ sig (Elt F) Λ₀ .tc) α} (W : Waits sig Unit) :
    iprop(records π x K ∗ levAts L lv ∗ cred (tallyAt (cell c none) () 2) ∗ owes (c : Thread nD τ) (due π c 0) W ∗ atPos ER (cell c none) 0 ∅ 0)
      ⊢ iprop(((owes (c : Thread nD τ) (due π c 0) (insert (SemLoc.reg barS, ()) W) ∗ landFree (nxt π c) ∗ semVal (cell c none) 0) -∗ runs c (n ⟨⟩) Q)
          -∗ runs c (.op (.semWait barS a) n) Q) := by
  subst ha
  iintro ⟨#HI, #Hlev, Hc, HO, Hat⟩ Hk
  iapply (Rounds.wp_wait_rest_token 𝒱₀ ER (plan π x) (c : Thread nD τ) none (κ := K (c, none))
      (wpE_semWait_eq 𝒱₀ (c : Thread nD τ) none Set.univ) (Set.mem_univ _) () (O := due π c 0) (W := W) (R := 0) (m := 0) (T := ∅)
      ((Nat.zero_add _).trans (expect_bar π x c).symm)) $$ [Hc HO Hat]
  · isplitr; · iapply (records_inv π x K c none); iexact HI
    isplitl [Hc]; · iexact Hc
    isplitl [HO]; · iexact HO
    isplitr; · iapply (mayWait_bar π c); iexact Hlev
    iexact Hat
  iintro ⟨HO, Hat, -, Hp⟩
  ihave Hp' := (Entails.of_eq (round_bar π x c)) $$ Hp
  icases Hp' with ⟨-, Hp'⟩
  imod (Rounds.cell_close ER (plan π x) (Set.mem_univ (K (c, none))) (fun h => h) (R := 0 + 1) (plan_later π x (cell c none))) $$ [Hat] with Hz
  · isplitr; · iapply (records_inv π x K c none); iexact HI
    iexact Hat
  iapply Hk
  isplitl [HO]; · iexact HO
  isplitl [Hp'] <;> iassumption

end Cert.Shuffle

end
-- ==== Proof.Body.lean ====
/-
# One device's run of the kernel

The kernel body on one device, from what the launch gives it to what it leaves: its result block is the narrowed and
widened block of the device that sends to it, its own block and table are as they were, and every semaphore it used is at
zero.
-/
module

public import proofs.«01_k».proof.Proof.Steps
public import proofs.«01_k».proof.Proof.Gen.KernelIdeal.Launch
public import proofs.«01_k».proof.Proof.Gen.KernelIdeal.Points

@[expose] public section

noncomputable section

namespace Cert.Shuffle

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The table's words as the kernel reads them -/

omit [FloatOps F] in
theorem read_word (π : Equiv.Perm (Fin 4)) (k : Fin 4) {off : Fin 1 → ℕ} (h : off = ![k.val]) (inb) :
    (tM.access (Rect.unit (s := S4) off S1.size inb) : View sig .tc _ _ _).read (Elt F) (tab π)
      (Shape.Idx.first (s := S1) (numel1_S1.symm ▸ Nat.one_pos)) = wordOf (π k) := by
  subst h
  show tab π ((Rect.unit (s := S4) ![k.val] S1.size inb).emb _) = _
  unfold tab
  refine congrArg (fun j => wordOf (π j)) (Fin.ext ?_)
  rw [Rect.emb_apply]
  show k.val + 1 * 0 = k.val
  omega

/-! ## The windows' blocks -/

omit [FloatOps F] in
/-- Each window's one block is its whole array. -/
theorem block_x (f : (main_arg0 : Ref sig .tc).ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
omit [FloatOps F] in
theorem block_t (f : (main_arg1 : Ref sig .tc).ty.Contents (Elt F)) : (win0_1.blk (0 : Fin 1)).view.read (Elt F) f = f :=
  Memref.read_access_unit_zero (Elt F) main_arg1 (off := fun a => (win0_1.index (0 : Fin 1)) a * main_arg1.ty.shape.size a)
    (funext fun a => by fin_cases a <;> decide) (fun a => by fin_cases a <;> decide) f
omit [FloatOps F] in
theorem block_o (f : (main_v1 : Ref sig .tc).ty.Contents (Elt F)) : (win0_2.blk (0 : Fin 1)).view.read (Elt F) f = f :=
  Memref.read_access_unit_zero (Elt F) main_v1 (off := fun a => (win0_2.index (0 : Fin 1)) a * main_v1.ty.shape.size a)
    (funext fun a => by fin_cases a <;> decide) (fun a => by fin_cases a <;> decide) f

/-! ## What the body starts from and leaves -/

variable (π : Equiv.Perm (Fin 4)) (x : Dev nD → (cc0_stg0_0 : Ref sig .tc).ty.Contents (Elt F))

/-- Device `c`'s result block. -/
abbrev res (c : Dev nD) : (cc0_stg2_0 : Ref sig .tc).ty.Contents (Elt F) := highs (sent x (prv π c))

omit [FloatOps F] in
theorem bigSep_which (Φ : Which → sProp 𝕄) : bigSep Finset.univ Φ
    = iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) :=
  bigSep_univ_eq_bigSepL [none, some (false, 0), some (false, 1), some (false, 2), some (false, 3),
    some (true, 0), some (true, 1), some (true, 2), some (true, 3)] (by decide) (by decide) Φ

/-- Where the device stands at each of its semaphores, and the payments it will make: one into the barrier of the device
    it sends to and one into that of the device it receives from; for each group, one into its own send semaphore and one
    into the receive semaphore of the device it sends to. -/
def duties (c : Dev nD) : sProp 𝕄 :=
  iprop((bigSep Finset.univ fun w : Which => atPos ER (cell c w) 0 ∅ 0)
    ∗ dutyTok ER (cell (nxt π c) none) 0 false ∗ dutyTok ER (cell (prv π c) none) 0 true
    ∗ (bigSep Finset.univ fun k : Fin 4 => dutyTok ER (cell c (some (false, k))) 0 false)
    ∗ (bigSep Finset.univ fun k : Fin 4 => dutyTok ER (cell (nxt π c) (some (true, k))) 0 false))

/-- What it may wait for: two units at its barrier, a group's units at each receive semaphore. -/
def credits (c : Dev nD) : sProp 𝕄 :=
  iprop(cred (tallyAt (cell c none) () 2) ∗ bigSep Finset.univ fun k : Fin 4 => cred (tallyAt (cell c (some (true, k))) () unitsPer))

def start (c : Dev nD) : sProp 𝕄 := iprop((∃ K, records π x K ∗ duties π c) ∗ credits c ∗ levAts L lv)

def sendFree (c : Dev nD) : sProp 𝕄 := iprop(∃ f, ((c : Thread nD τ).loc cc0_scratch0) ↦{fullShare} f)

/-- All nine semaphores at zero. -/
def quiet (c : Dev nD) : sProp 𝕄 := bigSep Finset.univ fun w : Which => semVal (cell c w) 0

variable (m : (ℓ : Loc nD τ sig) → Buf (Elt F) ℓ)

/-- Each device's own block, as the memory has it at launch. -/
abbrev xOf (c : Dev nD) : (cc0_stg0_0 : Ref sig .tc).ty.Contents (Elt F) := m ((c : Thread nD τ).loc main_arg0)

/-- The pipeline's data: the arrays, what the body leaves in each staged block, what it holds and owes before and after. -/
def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => m ((c : Thread nD τ).loc main_arg1)
    | ⟨2, _⟩ => res π (xOf m) c
  Φ t := match t with
    | ⟨0, _⟩ => iprop(start π (xOf m) c ∗ sendFree c ∗ landFree c)
    | ⟨_ + 1, _⟩ => iprop(sendFree c ∗ landFree c ∗ quiet c)
  q _ := fullShare
  owed t := match t with
    | ⟨0, _⟩ => dueAll π c
    | ⟨_ + 1, _⟩ => 0

theorem before_x (c : Dev nD) (d) : (dats π m 0 c).before (0 : Fin 3) t0_0 d = xOf m c := by
  unfold Dat.before; rw [if_pos (fetch0_0 t0_0)]; exact Eq.trans (b := (win0_0.blk (0 : Fin 1)).view.read (Elt F) (xOf m c)) rfl (block_x _)
theorem before_t (c : Dev nD) (d) : (dats π m 0 c).before (1 : Fin 3) t0_0 d = m ((c : Thread nD τ).loc main_arg1) := by
  unfold Dat.before; rw [if_pos (fetch0_1 t0_0)]; exact Eq.trans (b := (win0_1.blk (0 : Fin 1)).view.read (Elt F) (m ((c : Thread nD τ).loc main_arg1))) rfl (block_t _)

/-! ## The body -/

variable (K : Dev nD × Which → ℕ)

def tableAt (c : Dev nD) : sProp 𝕄 := ((c : Thread nD τ).loc cc0_stg1_0) ↦{fullShare} (tab π : (cc0_stg1_0 : Ref sig .tc).ty.Contents (Elt F))
def resultAt (c : Dev nD) (f : (cc0_stg2_0 : Ref sig .tc).ty.Contents (Elt F)) : sProp 𝕄 := ((c : Thread nD τ).loc cc0_stg2_0) ↦{fullShare} f

/-- The four narrowing payloads are one function, and so are the four widening ones. -/
theorem pay3_eq : k0_pay3 (F := F) = k0_pay2 := rfl
theorem pay4_eq : k0_pay4 (F := F) = k0_pay2 := rfl
theorem pay6_eq (v : FVec F S1x256x1024 .f32) : k0_pay6 (k0_pay5 v) = k0_pay2 v := rfl
theorem pay8_eq : k0_pay8 (F := F) = k0_pay7 := rfl
theorem pay9_eq : k0_pay9 (F := F) = k0_pay7 := rfl
theorem pay1_eq : k0_pay1 (F := F) = k0_pay7 := rfl

/-- Loading one word of the table gives that word. -/
theorem wp_word (c : Dev nD) (k : Fin 4) {off : Fin 1 → ℕ} (h : off = ![k.val]) {inb h1 hp} {α : Type} {Q : α → sProp 𝕄}
    {n : Elt F .i32 → Prog (TpuEff nD τ sig (Elt F) Λ₀ .tc) α} :
    tableAt π c ⊢ iprop((tableAt π c -∗ runs c (n (wordOf (π k))) Q)
      -∗ runs c (smemLoad tM (Rect.unit (s := S4) off S1.size inb) h1 hp >>= n) Q) := by
  unfold tableAt smemLoad smemLoadElt
  simp only [Prog.bind_op, Prog.bind_ret]
  rw [← read_word (F := F) π k h inb]
  iintro Ht Hk
  iapply (wp_load_rect 𝒱₀ (c : Thread nD τ) none Set.univ (m := tM) (r := Rect.unit (s := S4) off S1.size inb) (Finset.subset_univ _)) $$ Ht
  iexact Hk

set_option maxHeartbeats 4000000 in
theorem sound_body (c : Dev nD) (W : Waits sig Unit) (Q : PUnit → sProp 𝕄) :
    iprop((records π x K ∗ duties π c ∗ credits c ∗ levAts L lv) ∗ sendFree c ∗ landFree c
        ∗ owes (c : Thread nD τ) (dueAll π c) W ∗ blockAt c (x c) ∗ tableAt π c ∗ (∃ f, resultAt c f)
        ∗ (∀ W', (sendFree c ∗ landFree c ∗ quiet c) -∗ owes (c : Thread nD τ) 0 W' -∗ blockAt c (x c) -∗ tableAt π c -∗ resultAt c (res π x c) -∗ Q ⟨⟩))
      ⊢ runs c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId,
    pay3_eq, pay4_eq, pay6_eq, pay8_eq, pay9_eq, pay1_eq]
  unfold duties credits sendFree
  simp only [bigSep_which, bigSep_four]
  iintro ⟨⟨#HI, ⟨⟨HaB, HaS0, HaS1, HaS2, HaS3, HaR0, HaR1, HaR2, HaR3⟩, HtN, HtP, ⟨HtS0, HtS1, HtS2, HtS3⟩, ⟨HtR0, HtR1, HtR2, HtR3⟩⟩,
    ⟨HcB, HcR0, HcR1, HcR2, HcR3⟩, #Hlev⟩, ⟨%fs, Hs⟩, Hl, HO, Hx, Ht, ⟨%fo, Ho⟩, Hk⟩
  ihave Hs := (Entails.of_eq (send_groups c fs)) $$ Hs
  icases Hs with ⟨Hs0, Hs1, Hs2, Hs3⟩
  unfold resultAt
  ihave Ho := (Entails.of_eq (out_groups c fo)) $$ Ho
  icases Ho with ⟨Ho0, Ho1, Ho2, Ho3⟩
  -- the device `c` sends to, as the table names it
  iapply (wp_word π c (mid c) (k0_off1_eq c)) $$ Ht; iintro Ht
  simp only [wp_assume_of _ _ _ _ (d := k0_chk1.dec _ _) (own_word_ok π c)]
  -- the device that sends to it
  iapply (wp_word π c 0 rfl) $$ Ht; iintro Ht
  iapply (wp_word π c 1 rfl) $$ Ht; iintro Ht
  iapply (wp_word π c 2 rfl) $$ Ht; iintro Ht
  iapply (wp_word π c 3 rfl) $$ Ht; iintro Ht
  simp only [wp_assume_of _ _ _ _ (d := k0_chk2.dec _ _ _ _ _) (k0_chk2_all c (wordOf (π 0)) (wordOf (π 1)) (wordOf (π 2)) (wordOf (π 3)))]
  -- the two signals and the wait for both
  iapply (wp_signal_to π x K c (Fin.ext (dev1_eq π c)) (a := 1) rfl W) $$ [HO HtN]
  · isplitr; · iexact HI
    isplitl [HO] <;> iassumption
  iintro HO
  iapply (wp_signal_from π x K c (Fin.ext (dev2_eq π c)) (a := 1) rfl W) $$ [HO Hl HtP]
  · isplitr; · iexact HI
    isplitl [Hl]; · iexact Hl
    isplitl [HO] <;> iassumption
  iintro HO
  -- each group: narrowed and sent (the first once both signals are in)
  iapply (wp_narrow c 0 rfl rfl (x c) fs) $$ [Hx Hs0]
  · isplitl [Hx] <;> iassumption
  iintro ⟨Hx, Hs0⟩
  iapply (wp_gather π x K c (a := 2) rfl W) $$ [HcB HO HaB]
  · isplitr; · iexact HI
    isplitr; · iexact Hlev
    isplitl [HcB]; · iexact HcB
    isplitl [HO] <;> iassumption
  unfold landFree
  iintro ⟨HO, ⟨%fl, Hl⟩, HzB⟩
  ihave Hl := (Entails.of_eq (land_groups (nxt π c) fl)) $$ Hl
  icases Hl with ⟨Hl0, Hl1, Hl2, Hl3⟩
  iapply (wp_transfer π x K c 0 (Fin.ext (dev3_eq π c)) rfl rfl rfl rfl fl _) $$ [Hs0 Hl0 HO HtS0 HtR0]
  · isplitr; · iexact HI
    isplitl [Hs0]; · iexact Hs0
    isplitl [Hl0]; · iexact Hl0
    isplitl [HO]; · iexact HO
    isplitl [HtS0] <;> iassumption
  iintro ⟨HcS0, HO⟩
  iapply (wp_narrow c 1 rfl rfl (x c) fs) $$ [Hx Hs1]
  · isplitl [Hx] <;> iassumption
  iintro ⟨Hx, Hs1⟩
  iapply (wp_transfer π x K c 1 (Fin.ext (dev4_eq π c)) rfl rfl rfl rfl fl _) $$ [Hs1 Hl1 HO HtS1 HtR1]
  · isplitr; · iexact HI
    isplitl [Hs1]; · iexact Hs1
    isplitl [Hl1]; · iexact Hl1
    isplitl [HO]; · iexact HO
    isplitl [HtS1] <;> iassumption
  iintro ⟨HcS1, HO⟩
  iapply (wp_narrow c 2 rfl rfl (x c) fs) $$ [Hx Hs2]
  · isplitl [Hx] <;> iassumption
  iintro ⟨Hx, Hs2⟩
  iapply (wp_transfer π x K c 2 (Fin.ext (dev5_eq π c)) rfl rfl rfl rfl fl _) $$ [Hs2 Hl2 HO HtS2 HtR2]
  · isplitr; · iexact HI
    isplitl [Hs2]; · iexact Hs2
    isplitl [Hl2]; · iexact Hl2
    isplitl [HO]; · iexact HO
    isplitl [HtS2] <;> iassumption
  iintro ⟨HcS2, HO⟩
  iapply (wp_narrow c 3 rfl rfl (x c) fs) $$ [Hx Hs3]
  · isplitl [Hx] <;> iassumption
  iintro ⟨Hx, Hs3⟩
  iapply (wp_transfer π x K c 3 (Fin.ext (dev6_eq π c)) rfl rfl rfl rfl fl _) $$ [Hs3 Hl3 HO HtS3 HtR3]
  · isplitr; · iexact HI
    isplitl [Hs3]; · iexact Hs3
    isplitl [Hl3]; · iexact Hl3
    isplitl [HO]; · iexact HO
    isplitl [HtS3] <;> iassumption
  iintro ⟨HcS3, HO⟩
  -- each group: its own send done, the group from the other device there and widened
  rw [show due π c ((3 : Fin 4).val + 1) = 0 from due_end π c]
  iapply (wp_await π x K c 0 false (s := sndS 0) rfl (src := rPart 0) (dst := sPart 0) rfl _) $$ [HcS0 HO HaS0]
  · isplitr; · iexact HI
    isplitl [HcS0]; · iexact HcS0
    isplitl [HO] <;> iassumption
  iintro ⟨HO, Hs0, HzS0⟩
  iapply (wp_await π x K c 0 true (s := rcvS 0) rfl (src := sPart 0) (dst := rPart 0) rfl _) $$ [HcR0 HO HaR0]
  · isplitr; · iexact HI
    isplitl [HcR0]; · iexact HcR0
    isplitl [HO] <;> iassumption
  iintro ⟨HO, Hr0, HzR0⟩
  ihave Hr0 := (Entails.of_eq (show brings π x c (some (true, 0)) false = landAt c 0 (sent x (prv π c)) from rfl)) $$ Hr0
  iapply (wp_widen c 0 rfl rfl (sent x (prv π c)) fo) $$ [Hr0 Ho0]
  · isplitl [Hr0] <;> iassumption
  iintro ⟨Hr0, Ho0⟩
  iapply (wp_await π x K c 1 false (s := sndS 1) rfl (src := rPart 1) (dst := sPart 1) rfl _) $$ [HcS1 HO HaS1]
  · isplitr; · iexact HI
    isplitl [HcS1]; · iexact HcS1
    isplitl [HO] <;> iassumption
  iintro ⟨HO, Hs1, HzS1⟩
  iapply (wp_await π x K c 1 true (s := rcvS 1) rfl (src := sPart 1) (dst := rPart 1) rfl _) $$ [HcR1 HO HaR1]
  · isplitr; · iexact HI
    isplitl [HcR1]; · iexact HcR1
    isplitl [HO] <;> iassumption
  iintro ⟨HO, Hr1, HzR1⟩
  ihave Hr1 := (Entails.of_eq (show brings π x c (some (true, 1)) false = landAt c 1 (sent x (prv π c)) from rfl)) $$ Hr1
  iapply (wp_widen c 1 rfl rfl (sent x (prv π c)) fo) $$ [Hr1 Ho1]
  · isplitl [Hr1] <;> iassumption
  iintro ⟨Hr1, Ho1⟩
  iapply (wp_await π x K c 2 false (s := sndS 2) rfl (src := rPart 2) (dst := sPart 2) rfl _) $$ [HcS2 HO HaS2]
  · isplitr; · iexact HI
    isplitl [HcS2]; · iexact HcS2
    isplitl [HO] <;> iassumption
  iintro ⟨HO, Hs2, HzS2⟩
  iapply (wp_await π x K c 2 true (s := rcvS 2) rfl (src := sPart 2) (dst := rPart 2) rfl _) $$ [HcR2 HO HaR2]
  · isplitr; · iexact HI
    isplitl [HcR2]; · iexact HcR2
    isplitl [HO] <;> iassumption
  iintro ⟨HO, Hr2, HzR2⟩
  ihave Hr2 := (Entails.of_eq (show brings π x c (some (true, 2)) false = landAt c 2 (sent x (prv π c)) from rfl)) $$ Hr2
  iapply (wp_widen c 2 rfl rfl (sent x (prv π c)) fo) $$ [Hr2 Ho2]
  · isplitl [Hr2] <;> iassumption
  iintro ⟨Hr2, Ho2⟩
  iapply (wp_await π x K c 3 false (s := sndS 3) rfl (src := rPart 3) (dst := sPart 3) rfl _) $$ [HcS3 HO HaS3]
  · isplitr; · iexact HI
    isplitl [HcS3]; · iexact HcS3
    isplitl [HO] <;> iassumption
  iintro ⟨HO, Hs3, HzS3⟩
  iapply (wp_await π x K c 3 true (s := rcvS 3) rfl (src := sPart 3) (dst := rPart 3) rfl _) $$ [HcR3 HO HaR3]
  · isplitr; · iexact HI
    isplitl [HcR3]; · iexact HcR3
    isplitl [HO] <;> iassumption
  iintro ⟨HO, Hr3, HzR3⟩
  ihave Hr3 := (Entails.of_eq (show brings π x c (some (true, 3)) false = landAt c 3 (sent x (prv π c)) from rfl)) $$ Hr3
  iapply (wp_widen c 3 rfl rfl (sent x (prv π c)) fo) $$ [Hr3 Ho3]
  · isplitl [Hr3] <;> iassumption
  iintro ⟨Hr3, Ho3⟩
  -- the groups put together again
  unfold runs; rw [wp_ret]; imodintro
  unfold brings
  ihave Hs := (Entails.of_eq (send_groups c (sent x c)).symm) $$ [Hs0 Hs1 Hs2 Hs3]
  · isplitl [Hs0]; · iexact Hs0
    isplitl [Hs1]; · iexact Hs1
    isplitl [Hs2] <;> iassumption
  ihave Hr := (Entails.of_eq (land_groups c (sent x (prv π c))).symm) $$ [Hr0 Hr1 Hr2 Hr3]
  · isplitl [Hr0]; · iexact Hr0
    isplitl [Hr1]; · iexact Hr1
    isplitl [Hr2] <;> iassumption
  ihave Ho := (Entails.of_eq (out_groups c (res π x c)).symm) $$ [Ho0 Ho1 Ho2 Ho3]
  · isplitl [Ho0]; · iexact Ho0
    isplitl [Ho1]; · iexact Ho1
    isplitl [Ho2] <;> iassumption
  iapply Hk $$ [Hs Hr HzB HzS0 HzS1 HzS2 HzS3 HzR0 HzR1 HzR2 HzR3] HO Hx Ht Ho
  isplitl [Hs]; · iexists _; iexact Hs
  isplitl [Hr]; · iexists _; iexact Hr
  unfold quiet
  rw [bigSep_which]
  isplitl [HzB]; · iexact HzB
  isplitl [HzS0]; · iexact HzS0
  isplitl [HzS1]; · iexact HzS1
  isplitl [HzS2]; · iexact HzS2
  isplitl [HzS3]; · iexact HzS3
  isplitl [HzR0]; · iexact HzR0
  isplitl [HzR1]; · iexact HzR1
  isplitl [HzR2] <;> iassumption

/-! ## As the launch asks for it -/

/-- Buffer `b` of device `c`, staged, holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start π (xOf m) c ∗ sendFree c ∗ landFree c) ∗ (dats π m 0 c).owesAt () t0_0.castSucc
    ∗ (∃ d, staged c cc0_stg0_0 ((dats π m 0 c).before (0 : Fin 3) t0_0 d))
    ∗ (∃ d, staged c cc0_stg1_0 ((dats π m 0 c).before (1 : Fin 3) t0_0 d))
    ∗ (∃ d, staged c cc0_stg2_0 ((dats π m 0 c).before (2 : Fin 3) t0_0 d)))

def bodyPost (c : Dev nD) : sProp 𝕄 :=
  iprop((sendFree c ∗ landFree c ∗ quiet c) ∗ (dats π m 0 c).owesAt () t0_0.succ
    ∗ staged c cc0_stg0_0 (xOf m c) ∗ staged c cc0_stg1_0 (m ((c : Thread nD τ).loc main_arg1)) ∗ staged c cc0_stg2_0 (res π (xOf m) c))

set_option maxRecDepth 4000 in
/-- The body meets what the launch asks of it on every device, whenever every device's table is that of `π`. -/
theorem body_obligation (hpi : ∀ c : Dev nD, m ((c : Thread nD τ).loc main_arg1) = tab π) (c : Dev nD) :
    BodyObligation (dats (F := F) π m 0 c) (defs₀ (F := F)) 𝒱₀ () Set.univ := fun t => by
  rw [fin_N0 t]
  rw [bigSep_W0, bigSep_W0]
  simp only [owns_whole_eq]
  show bodyPre π m c ⊢ runs c (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost π m c)
  unfold bodyPre start
  iintro ⟨⟨⟨⟨%K, HI, Hd⟩, Hc, Hlev⟩, Hs, Hl⟩, Ho, ⟨%d0, %g0, %hg0, Hx⟩, ⟨%d1, %g1, %hg1, Ht⟩, ⟨%d2, %g2, -, Hout⟩⟩
  rw [before_x] at hg0
  rw [before_t, hpi c] at hg1
  subst hg0 hg1
  unfold Dat.owesAt Pipeline.owesWithin
  icases Ho with ⟨%W, -, HO⟩
  rw [show (dats π m 0 c).owed t0_0.castSucc = dueAll π c from rfl]
  iapply (sound_body π (xOf m) K c W fun _ => bodyPost π m c)
  isplitl [HI Hd Hc Hlev]
  · isplitl [HI]; · iexact HI
    isplitl [Hd]; · iexact Hd
    isplitl [Hc] <;> iassumption
  isplitl [Hs]; · iexact Hs
  isplitl [Hl]; · iexact Hl
  isplitl [HO]; · iexact HO
  isplitl [Hx]; · unfold blockAt; iexact Hx
  isplitl [Ht]; · unfold tableAt; iexact Ht
  isplitl [Hout]; · iexists g2; unfold resultAt; iexact Hout
  unfold blockAt tableAt resultAt
  iintro %W' Hq HO Hx Ht Hout
  unfold bodyPost Dat.owesAt Pipeline.owesWithin
  rw [show (dats π m 0 c).owed t0_0.succ = 0 from rfl, hpi c]
  isplitl [Hq]; · iexact Hq
  isplitl [HO]
  · iexists W'
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  iexists _; isplitr; · (ipureintro; rfl)
  iexact Hout

end Cert.Shuffle

end
-- ==== Proof.Launch.lean ====
/-
# The run of the whole mesh

The launch deals every device its semaphores, the payments it is to make and what it may wait for; with the body's run on
each device this gives the run of the kernel on all 32: it ends, every semaphore is at zero, the inputs are unchanged and
every device's result is the narrowed and widened block of the device that sends to it.
-/
module

public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Shuffle

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (π : Equiv.Perm (Fin 4)) (m : (ℓ : Loc nD τ sig) → Buf (Elt F) ℓ) (ρ : Dev nD → PrngReg)

/-! ## Sums over semaphores -/

omit [FloatOps F] in
theorem bigSep_option {A : Type} [Fintype A] [DecidableEq A] (Φ : Option A → sProp 𝕄) :
    bigSep Finset.univ Φ = iprop(Φ none ∗ bigSep Finset.univ fun a => Φ (some a)) := by
  have h : (Finset.univ : Finset (Option A)) = insert none (Finset.univ.map Function.Embedding.some) := by
    ext o; cases o <;> simp
  rw [h, bigSep_insert (by simp), bigSep_map]; rfl

omit [FloatOps F] in
/-- Over the send and receive semaphores: the sends, then the receives. -/
theorem bigSep_own (Φ : Bool × Fin 4 → sProp 𝕄) :
    bigSep Finset.univ Φ = iprop((bigSep Finset.univ fun k => Φ (false, k)) ∗ bigSep Finset.univ fun k => Φ (true, k)) := by
  rw [bigSep_univ_prod, bigSep_univ_eq_bigSepL [false, true] (by decide) (by decide), bigSepL_cons_cons, bigSepL_singleton]
  rfl

/-! ## What is dealt -/

theorem ownSemFacts : Pipeline.OwnSemFacts cfg0.spec ownSem := by decide +kernel

theorem share_full (c : Dev nD) (w : Fin cfg0.W) : (dats π m 0 c).share w = fullShare := by unfold Dat.share; split <;> rfl

abbrev cellAt (cw : Dev nD × Which) : GSem nD τ sig := cell cw.1 cw.2
theorem cellAt_injective : Function.Injective cellAt := fun a b h =>
  Prod.ext (cell_eq_iff.mp h).1 (cell_eq_iff.mp h).2
def allCells : Finset (GSem nD τ sig) := Finset.univ.map ⟨cellAt, cellAt_injective⟩

/-- The payments into a device's semaphores: the barrier's second, and each semaphore's first. -/
abbrev payment (cp : Dev nD × Option Which) : GSem nD τ sig × ℕ × Bool :=
  match cp.2 with
  | none => (cell cp.1 none, 0, true)
  | some w => (cell cp.1 w, 0, false)
theorem payment_injective : Function.Injective payment := by
  rintro ⟨c, _ | v⟩ ⟨d, _ | w⟩ h
  · exact Prod.ext (cell_eq_iff.mp (congrArg Prod.fst h)).1 rfl
  · exact Bool.noConfusion (congrArg (fun p => p.2.2) h)
  · exact Bool.noConfusion (congrArg (fun p => p.2.2) h)
  · obtain ⟨rfl, rfl⟩ := cell_eq_iff.mp (congrArg Prod.fst h)
    rfl
def allPayments : Finset (GSem nD τ sig × ℕ × Bool) := Finset.univ.map ⟨payment, payment_injective⟩

/-- What the protocol's resources start as, beside the pipeline's. -/
def seed : UU :=
  (initOf (Pipeline.cells cfgs cellOf_inj) (Pipeline.launchToks cfgs cellOf_inj), initOf allCells allPayments)

/-- The tokens of the payments into device `c`'s semaphores. -/
def paidTo (c : Dev nD) : sProp 𝕄 :=
  iprop(dutyTok ER (cell c none) 0 true ∗ dutyTok ER (cell c none) 0 false
    ∗ (bigSep Finset.univ fun k : Fin 4 => dutyTok ER (cell c (some (false, k))) 0 false)
    ∗ bigSep Finset.univ fun k : Fin 4 => dutyTok ER (cell c (some (true, k))) 0 false)

/-- The tokens of the payments device `c` makes. -/
def paidBySelf (c : Dev nD) : sProp 𝕄 :=
  iprop(dutyTok ER (cell (nxt π c) none) 0 false ∗ dutyTok ER (cell (prv π c) none) 0 true
    ∗ (bigSep Finset.univ fun k : Fin 4 => dutyTok ER (cell c (some (false, k))) 0 false)
    ∗ (bigSep Finset.univ fun k : Fin 4 => dutyTok ER (cell (nxt π c) (some (true, k))) 0 false))

/-- What is dealt to device `c`. -/
def dealt (c : Dev nD) : sProp 𝕄 :=
  iprop((bigSep Finset.univ fun w : Which => roundState ER (plan π (xOf m)) (cell c w) 0)
    ∗ (bigSep Finset.univ fun w : Which => iprop(atPos ER (cell c w) 0 ∅ 0 ∗ reached ER (cell c w) 0)) ∗ paidTo c)

/-- What it has once everyone's invariants are known to all and the tokens are with the payers. -/
def ready (c : Dev nD) : sProp 𝕄 := iprop(∃ K, records π (xOf m) K ∗ duties π c)

theorem deal : BI.own (ER (initOf allCells allPayments)) ⊢ (|==> bigSep Finset.univ (dealt π m) : sProp 𝕄) := by
  have hX (Φ : GSem nD τ sig → sProp 𝕄) : bigSep allCells Φ = bigSep Finset.univ fun c : Dev nD => bigSep Finset.univ fun w : Which => Φ (cell c w) := by
    unfold allCells; rw [bigSep_map, bigSep_univ_prod]; rfl
  have hT : bigSep allPayments (fun p => (dutyTok ER p.1 p.2.1 p.2.2 : sProp 𝕄)) = bigSep Finset.univ fun c : Dev nD => paidTo c := by
    unfold allPayments; rw [bigSep_map, bigSep_univ_prod]
    exact bigSep_congr fun c _ => by unfold paidTo; rw [bigSep_option, bigSep_option, bigSep_own]; rfl
  iintro H
  imod (Rounds.fund ER (plan π (xOf m)) allCells allPayments) $$ H with ⟨Hst, Hr, Hat, Htok⟩
  imodintro
  ihave Hst := (Entails.of_eq (hX fun g => roundState ER (plan π (xOf m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

omit [FloatOps F] in
/-- The barrier is the one semaphore that outlives the launch. -/
theorem unscoped_eq (c : Dev nD) : (unscopedSems0 c : sProp 𝕄) = semVal (cell c none) 0 := by
  unfold unscopedSems0; rw [bigSep_eq_bigSepL_of_eq [SemLoc.reg barS] (by decide) (by decide)]; rfl

omit [FloatOps F] in
/-- All semaphores at zero: the barrier and the eight of the kernel's own. -/
theorem quiet_eq (c : Dev nD) : (quiet c : sProp 𝕄)
    = iprop(unscopedSems0 c ∗ Pipeline.ownSems0 (Ix := Unit) (Name := ℕ) (U := UU) (Lvl := ℕ) (Val := Elt F) (τ := τ) ownSem c) := by
  unfold quiet; rw [bigSep_option, unscoped_eq]; rfl

theorem open_cells (c : Dev nD) :
    iprop(Pipeline.ownSems0 (Ix := Unit) (Name := ℕ) (U := UU) (Lvl := ℕ) (Val := Elt F) (τ := τ) ownSem c ∗ unscopedSems0 c ∗ dealt π m c)
      ⊢ |={Set.univ}=> iprop((bigSep Finset.univ fun w => iprop(∃ κ : ℕ, cellInv ER (plan π (xOf m)) κ (cell c w)))
          ∗ (bigSep Finset.univ fun w => iprop(atPos ER (cell c w) 0 ∅ 0 ∗ reached ER (cell c w) 0)) ∗ paidTo c) := by
  unfold dealt
  iintro ⟨Hos, Hus, Hst, Hat, Htok⟩
  ihave Hv := (Entails.of_eq (quiet_eq c).symm) $$ [Hos Hus]
  · isplitl [Hus] <;> iassumption
  imod (show iprop(quiet c ∗ bigSep Finset.univ fun w : Which => roundState ER (plan π (xOf m)) (cell c w) 0)
      ⊢ (|={Set.univ}=> bigSep Finset.univ fun w => iprop(∃ κ : ℕ, cellInv ER (plan π (xOf m)) κ (cell c w)) : sProp 𝕄) from by
        unfold quiet
        rw [← bigSep_sep']
        exact (bigSep_mono fun w _ => (Rounds.body_intro ER (plan π (xOf m)) (cell c w)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to the payers: a barrier's first and a receive semaphore's to the device that sends there, a barrier's
    second to the device that it sends to. -/
theorem pass_tokens : (bigSep Finset.univ fun c : Dev nD => (paidTo c : sProp 𝕄)) ⊢ bigSep Finset.univ fun c : Dev nD => paidBySelf π c := by
  unfold paidTo paidBySelf
  rw [bigSep_sep', bigSep_sep', bigSep_sep', bigSep_sep', bigSep_sep', bigSep_sep',
    bigSep_univ_equiv (around π) (fun c : Dev nD => (dutyTok ER (cell c none) 0 false : sProp 𝕄)),
    bigSep_univ_equiv (around π).symm (fun c : Dev nD => (dutyTok ER (cell c none) 0 true : sProp 𝕄)),
    bigSep_univ_equiv (around π) (fun c : Dev nD => (bigSep Finset.univ fun k : Fin 4 => dutyTok ER (cell c (some (true, k))) 0 false : sProp 𝕄))]
  iintro ⟨H1, H2, H3, H4⟩
  isplitl [H2]; · iexact H2
  isplitl [H1]; · iexact H1
  isplitl [H3]; · iexact H3
  iexact H4

theorem share_out :
    (bigSep Finset.univ fun c : Dev nD => iprop((bigSep Finset.univ fun w => iprop(∃ κ : ℕ, cellInv ER (plan π (xOf m)) κ (cell c w)))
          ∗ (bigSep Finset.univ fun w => iprop(atPos ER (cell c w) 0 ∅ 0 ∗ reached ER (cell c w) 0)) ∗ paidTo c) : sProp 𝕄)
      ⊢ bigSep Finset.univ (ready π m) := by
  rw [bigSep_sep', bigSep_sep', ← bigSep_univ_prod (fun cw : Dev nD × Which => iprop(∃ κ : ℕ, cellInv ER (plan π (xOf m)) κ (cell cw.1 cw.2))),
    bigSep_congr (s := Finset.univ) (fun (c : Dev nD) _ => bigSep_sep' Finset.univ (fun w : Which => (atPos ER (cell c w) 0 ∅ 0 : sProp 𝕄)) (fun w => reached ER (cell c w) 0)),
    bigSep_sep', ← bigSep_univ_prod (fun cw : Dev nD × Which => (reached ER (cell cw.1 cw.2) 0 : sProp 𝕄))]
  iintro ⟨HI, ⟨Hat, #HR⟩, Htok⟩
  ihave HK := (BI.bigSep_exists_pi Finset.univ (fun (cw : Dev nD × Which) (κ : ℕ) => (cellInv ER (plan π (xOf m)) κ (cell cw.1 cw.2) : sProp 𝕄))) $$ HI
  icases HK with ⟨%K, #HI⟩
  ihave Htok := (pass_tokens (F := F) π) $$ Htok
  iapply (bigSep_with_persistent (R := records π (xOf m) K) (Φ := fun c => duties π c) fun c _ => by
    unfold ready; iintro H; iexists K; iexact H)
  isplitr
  · unfold records; isplitl; · iexact HI
    iexact HR
  · iapply (Entails.of_eq (bigSep_sep' Finset.univ (fun c : Dev nD => bigSep Finset.univ fun w : Which => (atPos ER (cell c w) 0 ∅ 0 : sProp 𝕄)) (paidBySelf π)).symm)
    isplitl [Hat]; · iexact Hat
    iexact Htok

/-- From what is dealt and all semaphores at zero to every device ready. -/
theorem set_up : (bigSep Finset.univ fun c => iprop(Pipeline.ownSems0 (Ix := Unit) (Name := ℕ) (U := UU) (Lvl := ℕ) (Val := Elt F) (τ := τ) ownSem c ∗ unscopedSems0 c ∗ dealt π m c) : sProp 𝕄)
    ⊢ |={Set.univ}=> bigSep Finset.univ (ready π m) :=
  ((bigSep_mono fun c _ => open_cells π m c).trans (bigSep_fupd _ _)).trans (BI.fupd_mono (share_out π m))

/-! ## What may be waited for -/

theorem bar_ne_own (c d : Dev nD) (bk : Bool × Fin 4) : cell c none ≠ cell d (some bk) := fun h =>
  absurd (cell_eq_iff.mp h).2 (by simp)

theorem dueAll_apply (d : Dev nD) (g : GSem nD τ sig) : dueAll π d g ()
    = (∑ k : Fin 4, if g = cell (nxt π d) (some (true, k)) then unitsPer else 0)
        + (if g = cell (prv π d) none then 1 else 0) + (if g = cell (nxt π d) none then 1 else 0) := by
  unfold dueAll dueB
  rw [Pi.add_apply, Finsupp.add_apply, Pi.add_apply, Finsupp.add_apply, due_apply, tallyAt_apply, tallyAt_apply,
    show Finset.univ.filter (fun k : Fin 4 => 0 ≤ k.val) = Finset.univ by decide]
  simp only [due1, tallyAt_apply, and_true]

/-- A barrier is owed one unit by the device its device sends to and one by the device that sends to it, -/
theorem owed_bar (c d : Dev nD) : dueAll π d (cell c none) () = (if d = nxt π c then 1 else 0) + (if d = prv π c then 1 else 0) := by
  rw [dueAll_apply, Finset.sum_eq_zero (fun k _ => if_neg (bar_ne_own c _ _)), Nat.zero_add]
  congr 1
  · exact if_congr (cell_eq_iff.trans ⟨fun h => by rw [h.1, nxt_prv], fun h => ⟨by rw [h, prv_nxt], rfl⟩⟩) rfl rfl
  · exact if_congr (cell_eq_iff.trans ⟨fun h => (nxt_eq_iff π).mp h.1, fun h => ⟨(nxt_eq_iff π).mpr h, rfl⟩⟩) rfl rfl
/-- a receive semaphore a group's units by the device that sends there. -/
theorem owed_recv (c d : Dev nD) (k : Fin 4) : dueAll π d (cell c (some (true, k))) () = if d = prv π c then unitsPer else 0 := by
  have h (k' : Fin 4) : (if cell c (some (true, k)) = cell (nxt π d) (some (true, k')) then unitsPer else 0)
      = if k' = k then (if d = prv π c then unitsPer else 0) else 0 := by
    by_cases hk : k' = k
    · subst hk
      rw [if_pos rfl]
      exact if_congr (cell_eq_iff.trans ⟨fun h => (nxt_eq_iff π).mp h.1, fun h => ⟨(nxt_eq_iff π).mpr h, rfl⟩⟩) rfl rfl
    · rw [if_neg hk, if_neg fun h => hk (Prod.mk.inj (Option.some.inj (cell_eq_iff.mp h).2)).2.symm]
  rw [dueAll_apply, if_neg (bar_ne_own _ c _).symm, if_neg (bar_ne_own _ c _).symm, Nat.add_zero,
    Finset.sum_congr rfl fun k' _ => h k', Finset.sum_ite_eq' Finset.univ k, if_pos (Finset.mem_univ _)]

theorem credit_bar (c : Dev nD) :
    tallyOn (cell c none) (launchCredit (Pipeline.owing (dueAll π)) 0 (cell c none)) = (tallyAt (cell c none) () 2 : CellTallies nD τ sig Unit) := by
  unfold tallyAt; refine congrArg _ (Finsupp.ext fun u => ?_); cases u
  rw [Pipeline.launchCredit_owing, Finsupp.single_eq_same, Finset.sum_congr rfl fun d _ => owed_bar π c d, Finset.sum_add_distrib,
    Finset.sum_ite_eq' Finset.univ (nxt π c) fun _ => 1, Finset.sum_ite_eq' Finset.univ (prv π c) fun _ => 1, if_pos (Finset.mem_univ _), if_pos (Finset.mem_univ _)]

theorem credit_recv (c : Dev nD) (k : Fin 4) :
    tallyOn (cell c (some (true, k))) (launchCredit (Pipeline.owing (dueAll π)) 0 (cell c (some (true, k))))
      = (tallyAt (cell c (some (true, k))) () unitsPer : CellTallies nD τ sig Unit) := by
  unfold tallyAt; refine congrArg _ (Finsupp.ext fun u => ?_); cases u
  rw [Pipeline.launchCredit_owing, Finsupp.single_eq_same, Finset.sum_congr rfl fun d _ => owed_recv π c d k,
    Finset.sum_ite_eq' Finset.univ (prv π c) fun _ => unitsPer, if_pos (Finset.mem_univ _)]

omit [FloatOps F] in
theorem take_credits (c : Dev nD) : (Pipeline.launchCred (dueAll π) c : sProp 𝕄) ⊢ credits c := by
  have hinj : Function.Injective fun o : Option (Fin 4) => semOf (o.map fun k => (true, k)) :=
    semOf_injective.comp (Option.map_injective fun _ _ h => (Prod.mk.inj h).2)
  have h := bigSep_subset (Φ := fun s : SemLoc sig => (cred (tallyOn ((c : Thread nD τ), s)
    (launchCredit (Pipeline.owing (dueAll π)) 0 ((c : Thread nD τ), s))) : sProp 𝕄)) (Finset.subset_univ (Finset.univ.map ⟨_, hinj⟩))
  rw [bigSep_map, bigSep_option] at h
  have h0 := credit_bar π c
  have h1 := fun k => credit_recv π c k
  unfold Pipeline.launchCred credits
  rw [← h0, bigSep_congr fun k _ => congrArg cred (h1 k).symm]
  exact h

/-! ## The run -/

theorem begins (c : Dev nD) :
    iprop(Pipeline.unscopedRestP Pipeline.Prefetch.none cfg0.spec c (fun b => m ((c : Thread nD τ).loc b)) ∗ levAts L lv
        ∗ Pipeline.launchCred (dueAll π) c ∗ prngReg c (ρ c) ∗ ready π m c)
      ⊢ |={Set.univ}=> iprop(start π (xOf m) c ∗ emp) := by
  iintro ⟨-, Hlev, Hcr, -, HG⟩
  ihave Hc := (take_credits (F := F) π c) $$ Hcr
  imodintro
  unfold start ready
  isplitl
  · isplitl [HG]; · iexact HG
    isplitl [Hc] <;> iassumption
  · iempintro

theorem enter (c : Dev nD) :
    iprop(start π (xOf m) c ∗ Pipeline.prefHeld Pipeline.Prefetch.none c (fun _ => fullShare.right) (fun k => k.elim0) ∗ Pipeline.scopedRest cfg0.spec c)
      ⊢ (dats π m 0 c).Φ 0 := by
  rw [show (dats π m 0 c).Φ 0 = iprop(start π (xOf m) c ∗ sendFree c ∗ landFree c) from rfl, scopedRest0_eq]
  unfold sendFree landFree
  iintro ⟨Hs, -, H⟩
  isplitl [Hs] <;> iassumption

theorem leave (c : Dev nD) :
    (dats π m 0 c).Φ (Fin.last cfg0.N) ⊢ iprop(unscopedSems0 c ∗ Pipeline.ownSems0 ownSem c ∗ Pipeline.scopedRest cfg0.spec c) := by
  rw [show (dats π m 0 c).Φ (Fin.last cfg0.N) = iprop(sendFree c ∗ landFree c ∗ quiet c) from rfl, scopedRest0_eq, quiet_eq]
  unfold sendFree landFree
  iintro ⟨Hs, Hl, Hu, Ho⟩
  isplitl [Hu]; · iexact Hu
  isplitl [Ho]; · iexact Ho
  isplitl [Hs] <;> iassumption

theorem waits (c : Dev nD) : (levAts L lv : sProp 𝕄) ⊢ Pipeline.cellsWaits cfgs (dats π m) () 0 c :=
  Pipeline.cellsWaits_intro cfgs (dats π m) () 0 c fun w s t =>
    mayWait_stage π c _ (by fin_cases w <;> fin_cases s <;> decide +kernel) _ (by
      rcases t with ⟨_ | _, ht⟩
      · exact Or.inl rfl
      · exact Or.inr rfl)

/-- What the run leaves in the arrays: each as the pipeline's data say. -/
def arraysLeft (r : PUnit × MemSt nD τ sig (Elt F)) : Prop :=
  ∀ c : Dev nD, ∀ w : Fin cfg0.W, r.2.mem ((cfg0.win w).arr.view.loc (c : Thread nD τ)) = (dats π m 0 c).arrAt w cfg0.N

set_option maxRecDepth 8000 in
theorem run_arrays (hpi : ∀ c : Dev nD, m ((c : Thread nD τ).loc main_arg1) = tab π) :
    θ_run defs (onTc (τ := τ) (main (F := F))) (s₀ m ρ) (fun r => arraysLeft π m r ∧ r.2.sem = fun _ => 0) :=
  Pipeline.θ_run_region_owing_glob_pf (fun p => (cfgs p).toPCfg) (fun p => (cfgs p).toPCfg_adm) (dats π m) () cellOf_inj (0 : Fin 1)
    winFacts0.to₀ ownSemFacts (Pipeline.PreFacts.none _) EP defs₀ 𝒱₀ m ρ main
    (hmain := fun _ => rfl)
    (hbody := body_obligation π m hpi) (hne := fun w => by fin_cases w <;> exact Nat.succ_pos _) (harr := arr_whole0) (hstage := stage_whole0) (hshare := share_full π m)
    (hdistinct := winFacts0.arr_inj)
    (O₀ := dueAll π) (howed₀ := fun _ => rfl) (howedN := fun _ => rfl)
    (L := L) (lv := lv) (hL := L_of_ne) (hwaits := waits π m)
    (G := dealt π m) (G' := ready π m) (u₀ := seed)
    (hu₀ := by
      unfold seed
      iintro Hu
      ihave H := (ownU_pair _ _) $$ Hu
      icases H with ⟨HP, HX⟩
      imod (deal π m) $$ HX with HG
      imodintro
      isplitl [HP] <;> iassumption)
    (hglob := set_up π m)
    (hA := fun _ _ => rfl) (hpf := fun _ k => k.elim0)
    (X := start π (xOf m)) (Y := fun c => unscopedSems0 c) (Z := fun _ => iprop(emp))
    (hX := begins π m ρ) (hin := enter π m) (hout := leave π m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays it leaves -/

theorem left_x (c : Dev nD) : (dats π m 0 c).arrAt (0 : Fin 3) cfg0.N = m ((c : Thread nD τ).loc main_arg0) :=
  (dats π m 0 c).arrAt_in (0 : Fin 3) rfl _
theorem left_t (c : Dev nD) : (dats π m 0 c).arrAt (1 : Fin 3) cfg0.N = m ((c : Thread nD τ).loc main_arg1) :=
  (dats π m 0 c).arrAt_in (1 : Fin 3) rfl _
theorem left_o (c : Dev nD) : (dats π m 0 c).arrAt (2 : Fin 3) cfg0.N = res π (xOf m) c := by
  rw [← block_o (F := F) ((dats π m 0 c).arrAt (2 : Fin 3) cfg0.N),
    show cfg0.N = ((0 : Fin 1) : Fin cfg0.N).val + 1 from rfl, (dats π m 0 c).arrAt_succ (2 : Fin 3) (0 : Fin 1)]
  rw [show (cfg0.win (2 : Fin 3)).flush (0 : Fin 1) = true from by decide, if_pos rfl]
  exact View.read_write_univ _ _

/-- The kernel on the whole mesh, every device's table that of `π`: it ends with every device's result the narrowed and
    widened block of the device that sends to it, its block and its table as they were, and every semaphore at zero. -/
theorem run_main (hpi : ∀ c : Dev nD, m ((c : Thread nD τ).loc main_arg1) = tab π) :
    θ_run defs (onTc (τ := τ) (main (F := F))) (s₀ m ρ) (fun r =>
      (∀ c : Dev nD, r.2.mem ((c : Thread nD τ).loc main_v1) = res π (xOf m) c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs (onTc (τ := τ) (main (F := F))) (s₀ m ρ)).mono (fun r h =>
    ⟨fun c => ⟨(h.1 c (2 : Fin 3)).trans (left_o π m c), (h.1 c (0 : Fin 3)).trans (left_x π m c), (h.1 c (1 : Fin 3)).trans (left_t π m c)⟩, h.2⟩)
    (run_arrays π m ρ hpi)

end Cert.Shuffle

end
-- ==== Proof.Ref.lean ====
/- What the reference computes: the argsort of a permutation's table is the table of the inverse permutation, and the
   gather of the blocks by it puts block `π⁻¹ r` in place `r`. -/
module

public import proofs.«01_k».proof.Proof.Route
public import proofs.«01_k».proof.Proof.Gen.ReferenceIdeal.Run
public import Idealize.ShloMosaic.Lib.SortNet.HostSort
public import Idealize.ShloMosaic.Lib.ValueIdxCore
public import Idealize.ShloMosaic.Lib.Quiescent

@[expose] public section

noncomputable section

namespace Cert.Shuffle

open Idealize.ShloMosaic Idealize.ShloMosaic.TcCoe Idealize.SL.Sem
open Idealize.ShloMosaic.ValueIdx (ix1 ix2 ix3 eq_ix1 eq_ix2 eq_ix3)
open Cert.ReferenceIdeal (S4 S4x1 S4x1024x1024 comparator_i32_i32_d0)
open Cert.ReferenceIdeal.Gen

variable (π : Equiv.Perm (Fin 4))

/-! ## The argsort -/

/-- On the words of 0 to 3 the signed comparison of the sort is the comparison of the numbers. -/
theorem word_lt (a b u v : Fin 4) :
    (comparator_i32_i32_d0 (wordOf a, wordOf u) (wordOf b, wordOf v) == 1#1) = decide (a.val < b.val) := by
  show (IntOp.cmpi .slt (wordOf a) (wordOf b) == 1#1) = _
  revert a b; decide

/-- The positions 0 to 3 in the order in which `π` sends them to 0, 1, 2, 3: place `r` of the sorted table comes from
    position `π⁻¹ r`. -/
theorem sorted_from (r : Fin 4) : sortedFrom (fun a b : Fin 4 => decide ((π a).val < (π b).val)) r = π.symm r := by
  have hr : r.val < (List.ofFn π.symm).length := by rw [List.length_ofFn]; exact r.isLt
  rw [SortNet.sortedFrom_eq_getElem_of_pairwise_lt (fun a => (π a).val) (List.ofFn π.symm)
    (Equiv.Perm.ofFn_comp_perm π.symm id) (List.pairwise_ofFn.mpr fun {i j} h => by simpa using h) r hr]
  exact List.getElem_ofFn hr

/-- The argsort of the table of `π` is the table of the inverse. -/
theorem argsort_tab : (Host.sort2 S4 0 comparator_i32_i32_d0 (tab π) (iotaInDim S4 32 0)).2 = tab π.symm := by
  funext j
  unfold Host.sort2
  rw [dif_pos (show 0 < S4.rank from Nat.zero_lt_one)]
  show wordOf (sortedFrom (n := 4) (fun k k' : Fin 4 => comparator_i32_i32_d0 (wordOf (π k), wordOf k) (wordOf (π k'), wordOf k') == 1#1) (j 0))
    = wordOf (π.symm (j 0))
  rw [show (fun k k' : Fin 4 => comparator_i32_i32_d0 (wordOf (π k), wordOf k) (wordOf (π k'), wordOf k') == 1#1)
    = fun a b => decide ((π a).val < (π b).val) from funext fun k => funext fun k' => word_lt _ _ _ _]
  exact congrArg wordOf (sorted_from π _)

/-! ## The gather -/

/-- The dimension numbers of a gather of whole blocks, for `R` numbers of blocks and `N` blocks of `A` by `B`. -/
abbrev blockDims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem not_first (a : Fin 3) (h : a ≠ 0) : a ∉ [(0 : Fin 3)] := fun h' => h (List.mem_singleton.mp h')

/-- The gather of whole blocks: place `(r, i, j)` of the result is element `(i, j)` of the block whose number the
    index array holds at `r`, where that number is in range. -/
theorem gather_block {α : Type} {N A B R : Nat}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (i : Fin A) (j : Fin B) (b : Fin N)
    (hb : (idx (ix2 r (0 : Fin 1))).toInt.toNat = b.val) :
    Host.gather (blockDims N A B R wf) x idx (ix3 r i j) = x (ix3 b i j) := by
  unfold Host.gather
  refine congrArg x (funext fun a => Fin.ext ?_)
  show (blockDims N A B R wf).start (ix3 r i j) idx a + (blockDims N A B R wf).batchCoord (ix3 r i j) a
    + (blockDims N A B R wf).offCoord (ix3 r i j) a = (ix3 b i j a).val
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (blockDims N A B R wf).startIndexMap from List.mem_singleton.mpr rfl)]
    have hsi : (blockDims N A B R wf).siIdx (ix3 r i j) ⟨List.idxOf (0 : Fin 3) (blockDims N A B R wf).startIndexMap,
        List.idxOf_lt_length_iff.2 (List.mem_singleton.mpr rfl)⟩ = ix2 r (0 : Fin 1) := by
      funext k; refine Fin.ext ?_
      match k with
      | ⟨0, _⟩ => rfl
      | ⟨1, _⟩ => rfl
    rw [hsi, hb]
    show min b.val (N - 1) + 0 + 0 = b.val
    have := b.isLt
    omega
  · unfold GatherDims.start GatherDims.offCoord
    rw [dif_neg (show ¬ (1 : Fin 3) ∈ (blockDims N A B R wf).startIndexMap from not_first 1 (by decide)),
      dif_pos ((GatherDims.mem_sKept _ _).mpr ⟨not_first 1 (by decide), List.not_mem_nil⟩)]
    exact (Nat.zero_add _).trans rfl
  · unfold GatherDims.start GatherDims.offCoord
    rw [dif_neg (show ¬ (2 : Fin 3) ∈ (blockDims N A B R wf).startIndexMap from not_first 2 (by decide)),
      dif_pos ((GatherDims.mem_sKept _ _).mpr ⟨not_first 2 (by decide), List.not_mem_nil⟩)]
    exact (Nat.zero_add _).trans rfl

/-! ## The run -/

/-- The blocks of `x` in the order of the inverse permutation. -/
def shuffled {α : Type} (x : S4x1024x1024.Idx → α) : S4x1024x1024.Idx → α :=
  fun y => x (ix3 (π.symm (y 0 : Fin 4)) (y 1 : Fin 1024) (y 2 : Fin 1024))

/-- The index array of the gather: none of the words 0 to 3 is negative, so the wrapping of negative indices leaves the
    table as it is. -/
theorem index_at (p : Equiv.Perm (Fin 4)) (h₀ : Cert.ReferenceIdeal.S_.BroadcastsInDim S4 (![] : Fin 0 → Fin S4.rank))
    (h₁ : S4.BroadcastsInDim S4x1 (![0] : Fin 1 → Fin S4x1.rank)) (s : IVec S4 32) (r : Fin 4) :
    broadcastInDim S4x1 ![0] h₁ (select (cmpi .slt (tab p) (broadcastInDim S4 ![] h₀ (constantI Cert.ReferenceIdeal.S_ 32 0#32))) s (tab p))
      (ix2 r (0 : Fin 1)) = wordOf (p r) := by
  show Scalar.select (IntOp.cmpi .slt (wordOf (p r)) 0#32) (s _) (wordOf (p r)) = wordOf (p r)
  rw [show IntOp.cmpi .slt (wordOf (p r)) 0#32 = 0#1 from by generalize p r = a; revert a; decide]
  rfl

theorem word_num (a : Fin 4) : (wordOf a).toInt.toNat = a.val := by revert a; decide

variable {F : FTy → Type} [FloatOps F]

/-- The reference, its table that of `π`: it ends with block `π⁻¹ r` of `x` in place `r` and its arguments as they
    were. -/
theorem run_ref (m : (ℓ : Loc Cert.ReferenceIdeal.nD Cert.ReferenceIdeal.τ Cert.ReferenceIdeal.sig) → Buf (Elt F) ℓ)
    (ρ : Dev Cert.ReferenceIdeal.nD → PrngReg)
    (hpi : ∀ c : Dev Cert.ReferenceIdeal.nD, m ((c.tc : Thread Cert.ReferenceIdeal.nD Cert.ReferenceIdeal.τ).loc Cert.ReferenceIdeal.main_arg1) = tab π) :
    θ_run Cert.ReferenceIdeal.defs (onTc (τ := Cert.ReferenceIdeal.τ) (Cert.ReferenceIdeal.main (F := F))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v7)
          = shuffled π (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) := by
  refine (θ_run Cert.ReferenceIdeal.defs _ _).mono (fun r h c => ⟨(h c).1.trans ?_, (h c).2⟩) (Cert.ReferenceIdeal.Value.run m ρ)
  rw [hpi c, argsort_tab]
  funext y
  rw [eq_ix3 y]
  exact gather_block _ _ _ _ _ _ (π.symm (y 0 : Fin 4)) ((congrArg (fun w : BitVec 32 => w.toInt.toNat) (index_at π.symm _ _ _ _)).trans (word_num _))

/-- The reference leaves its arguments as they were, whatever they are, and has no semaphore. -/
theorem frame_ref (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run m ρ)

end Cert.Shuffle

end
-- ==== Proof.Values.lean ====
/- Over the reals the narrowing and the widening are the identity, so each device's result is the block of the device that
   sends to it; and that is the device's block of the reference's array. -/
module

public import proofs.«01_k».proof.Proof.Body
public import proofs.«01_k».proof.Proof.Ref
public import Idealize.ShloMosaic.Lib.Layout
public import Idealize.ShloMosaic.PureOps.Ideal

@[expose] public section

noncomputable section

namespace Cert.Shuffle

open Cert.KernelIdeal Cert.KernelIdeal.Gen
open Idealize.ShloMosaic
open Idealize.ShloMosaic.ValueIdx (ix3 eq_ix3)

variable (π : Equiv.Perm (Fin 4))

/-- Device `c`'s block of a whole array: the one that its middle coordinate numbers. -/
abbrev blockOf (c : Dev nD) (X : Cert.ReferenceIdeal.S4x1024x1024.Idx → Ideal .f32) : S1x1024x1024.Idx → Ideal .f32 :=
  Layout.blockN ⟨3, ![1, 1024, 1024]⟩ ⟨3, ![4, 1024, 1024]⟩ (Layout.meshBlock [2, 4, 4] ![[1], [], []] c) X

theorem part_mid (c : Dev nD) : ((Layout.meshBlock [2, 4, 4] ![[1], [], []] c) (0 : Fin 3)).val = (mid c).val := by
  revert c; decide
theorem part_rows (c : Dev nD) : ((Layout.meshBlock [2, 4, 4] ![[1], [], []] c) (1 : Fin 3)).val = 0
    ∧ ((Layout.meshBlock [2, 4, 4] ![[1], [], []] c) (2 : Fin 3)).val = 0 := by
  revert c; decide

/-- Element `(i, j)` of device `c`'s block is element `(i, j)` of the whole array's block `mid c`. -/
theorem blockOf_apply (c : Dev nD) (X : Cert.ReferenceIdeal.S4x1024x1024.Idx → Ideal .f32) (a : Fin 1) (i j : Fin 1024) :
    blockOf c X (ix3 a i j) = X (ix3 (mid c) i j) := by
  refine congrArg X (funext fun b => Fin.ext ?_)
  rw [Layout.TilesN.idx_val]
  have ha : a.val = 0 := by omega
  match b with
  | ⟨0, _⟩ =>
    show ((Layout.meshBlock [2, 4, 4] ![[1], [], []] c) (0 : Fin 3)).val * 1 + a.val = (mid c).val
    rw [part_mid, ha]; omega
  | ⟨1, _⟩ =>
    show ((Layout.meshBlock [2, 4, 4] ![[1], [], []] c) (1 : Fin 3)).val * 1024 + i.val = i.val
    rw [(part_rows c).1]; omega
  | ⟨2, _⟩ =>
    show ((Layout.meshBlock [2, 4, 4] ![[1], [], []] c) (2 : Fin 3)).val * 1024 + j.val = j.val
    rw [(part_rows c).2]; omega

/-- Over the reals a block narrowed by its sender and widened by its receiver is that block. -/
theorem res_apply (xs : (c : Dev nD) → S1x1024x1024.Idx → Ideal .f32) (c : Dev nD) (a : Fin 1) (i j : Fin 1024) :
    res (F := Ideal) π xs c (ix3 a i j) = xs (prv π c) (ix3 (0 : Fin 1) i j) := rfl

/-- The kernel's results are the blocks of the shuffled array: where every device starts with its block of `X`, device `c`
    ends with its block of the array whose block `r` is `X`'s block `π⁻¹ r`. -/
theorem res_block (X : Cert.ReferenceIdeal.S4x1024x1024.Idx → Ideal .f32) (xs : (c : Dev nD) → S1x1024x1024.Idx → Ideal .f32)
    (h : ∀ c, xs c = blockOf c X) (c : Dev nD) : res (F := Ideal) π xs c = blockOf c (shuffled π X) := by
  funext y
  rw [eq_ix3 y]
  refine (res_apply π xs c _ _ _).trans ?_
  rw [h]
  refine (blockOf_apply _ _ _ _ _).trans (Eq.trans ?_ (blockOf_apply _ _ _ _ _).symm)
  show X (ix3 (mid (prv π c)) _ _) = X (ix3 (π.symm (mid c)) _ _)
  rw [show mid (prv π c) = π.symm (mid c) from mid_beside c _]

end Cert.Shuffle

end
-- ==== Proof.Claims.lean ====
/- The claims, each proved once for every permutation: the two programs' frames and the equation of the values, from the
   precondition that the table is a given literal one. -/
module

public import proofs.«01_k».proof.Defs
public import proofs.«01_k».proof.Proof.Same
public import proofs.«01_k».proof.Proof.Launch
public import proofs.«01_k».proof.Proof.Values

@[expose] public section

noncomputable section

namespace Cert.Shuffle

open Idealize.ShloMosaic Idealize.ShloMosaic.TcCoe Idealize.SL.Sem
open Cert.KernelIdeal (S4)

/-! ## A permutation from its four values -/

/-- The permutation of 0 to 3 with the values `w`, which are pairwise different. -/
def permOf (w : Fin 4 → Fin 4) (hw : Function.Injective w) : Equiv.Perm (Fin 4) :=
  Equiv.ofBijective w (Finite.injective_iff_bijective.mp hw)

/-- The comparison of a precondition: word by word, whether the table `t` is the literal table `lit`. -/
abbrev isLit (lit : Fin 4 → BitVec 32) (t : IVec S4 32) : IVec S4 1 := cmpi .eq t fun i => lit (S4.rowMajor i)

/-- `lit` is the table of `π`: a table that the precondition accepts is `tab π`. -/
def Spells (lit : Fin 4 → BitVec 32) (π : Equiv.Perm (Fin 4)) : Prop := ∀ t : IVec S4 32, isLit lit t = (fun _ => 1#1) → t = tab π

theorem word_eq_of_cmp (a b : BitVec 32) (h : IntOp.cmpi .eq a b = 1#1) : a = b := by
  by_contra hne
  have h0 : IntOp.cmpi .eq a b = 0#1 := by
    show BitVec.ofBool (a == b) = 0#1
    rw [beq_eq_false_iff_ne.mpr hne]; rfl
  rw [h0] at h
  exact absurd h (by decide)

/-- A literal table that holds the words of the values of a permutation is that permutation's. -/
theorem spells (w : Fin 4 → Fin 4) (hw : Function.Injective w) (lit : Fin 4 → BitVec 32) (hl : ∀ k, lit k = wordOf (w k)) :
    Spells lit (permOf w hw) := by
  intro t ht
  funext i
  have h := word_eq_of_cmp _ _ (congrFun ht i)
  refine h.trans ((hl _).trans ?_)
  refine congrArg (fun k => wordOf (w k)) (Fin.ext ?_)
  show (S4.rowMajor i).val = (i 0 : Fin 4).val
  exact Shape.rowMajor_val_one i

variable {lit : Fin 4 → BitVec 32} {π : Equiv.Perm (Fin 4)}

/-- The kernel's frame: from every device's table that of `π`, it terminates without fault, its arguments as they were and
    every semaphore counter at zero. -/
theorem frame_kernel (hs : Spells lit π) (m : (ℓ : Loc Cert.Kernel.nD Cert.Kernel.τ Cert.Kernel.sig) → Buf (Elt Bits) ℓ)
    (ρ : Dev Cert.Kernel.nD → PrngReg)
    (h : ∀ c : Dev Cert.Kernel.nD, isLit lit (m ((c.tc : Thread Cert.Kernel.nD Cert.Kernel.τ).loc Cert.Kernel.main_arg1)) = fun _ => 1#1) :
    θ_run (Cert.Kernel.defs (F := Bits)) (onTc (τ := Cert.Kernel.τ) (Cert.Kernel.main (F := Bits))) ⟨m, fun _ => 0, ρ⟩ fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
      ∧ r.2.sem = fun _ => 0 :=
  same_runs (F := Bits) _ _ ((θ_run Cert.KernelIdeal.defs _ _).mono (fun _ hr => ⟨fun c => (hr.1 c).2, hr.2⟩)
    (run_main (F := Bits) π m ρ fun c => hs _ (h c)))

/-- The same of the kernel over the reals. -/
theorem frame_ideal (hs : Spells lit π) (m : (ℓ : Loc Cert.KernelIdeal.nD Cert.KernelIdeal.τ Cert.KernelIdeal.sig) → Buf (Elt Ideal) ℓ)
    (ρ : Dev Cert.KernelIdeal.nD → PrngReg)
    (h : ∀ c : Dev Cert.KernelIdeal.nD,
      isLit lit (m ((c.tc : Thread Cert.KernelIdeal.nD Cert.KernelIdeal.τ).loc Cert.KernelIdeal.main_arg1)) = fun _ => 1#1) :
    θ_run (Cert.KernelIdeal.defs (F := Ideal)) (onTc (τ := Cert.KernelIdeal.τ) (Cert.KernelIdeal.main (F := Ideal))) ⟨m, fun _ => 0, ρ⟩
      fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 :=
  (θ_run Cert.KernelIdeal.defs _ _).mono (fun _ hr => ⟨fun c => (hr.1 c).2, hr.2⟩)
    (run_main (F := Ideal) π m ρ fun c => hs _ (h c))

/-- The values: where every device starts with its block of the reference's array and with the reference's table, device
    `c`'s result is its block of the reference's result. -/
theorem value (hs : Spells lit π) (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg)
    (h : ∀ c : Dev Cert.KernelIdeal.nD,
      isLit lit (m ((c.tc : Thread Cert.KernelIdeal.nD Cert.KernelIdeal.τ).loc Cert.KernelIdeal.main_arg1)) = fun _ => 1#1)
    (hm : ∀ c : Dev Cert.KernelIdeal.nD,
      m ((c.tc : Thread Cert.KernelIdeal.nD Cert.KernelIdeal.τ).loc Cert.KernelIdeal.main_arg0)
        = blockOf c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
        = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v7),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = blockOf c v
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal)))
        ⟨m', fun _ => 0, ρ'⟩ (fun r =>
          r.2.mem (((0 : Dev Cert.ReferenceIdeal.nD).tc : Thread Cert.ReferenceIdeal.nD Cert.ReferenceIdeal.τ).loc Cert.ReferenceIdeal.main_v7) = v
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  refine ⟨shuffled π (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ hr c => ⟨(hr.1 c).1.trans (res_block π _ (xOf m) (fun d => (hm d).1) c), (hr.1 c).2⟩)
      (run_main (F := Ideal) π m ρ fun c => hs _ (h c))
  · refine (θ_run Cert.ReferenceIdeal.defs _ _).mono (fun _ hr => hr 0) (run_ref (F := Ideal) π m' ρ' fun c => ?_)
    obtain rfl : c = 0 := Subsingleton.elim _ _
    exact (hm 0).2.symm.trans (hs _ (h 0))

end Cert.Shuffle

end
-- ==== Proof.Words.lean ====
/- The tables that the preconditions name: each is the table of a permutation of 0 to 3. -/
module

public import proofs.«01_k».proof.Proof.Claims

@[expose] public section

noncomputable section

namespace Cert.Shuffle

/-! Every literal table spells the permutation with those values. -/

theorem is_0123 : Spells Cert.Pre_pi_is_0123_Kernel.lit0 (permOf ![0, 1, 2, 3] (by decide)) := spells _ _ _ (by decide)
theorem is_0132 : Spells Cert.Pre_pi_is_0132_Kernel.lit0 (permOf ![0, 1, 3, 2] (by decide)) := spells _ _ _ (by decide)
theorem is_0213 : Spells Cert.Pre_pi_is_0213_Kernel.lit0 (permOf ![0, 2, 1, 3] (by decide)) := spells _ _ _ (by decide)
theorem is_0231 : Spells Cert.Pre_pi_is_0231_Kernel.lit0 (permOf ![0, 2, 3, 1] (by decide)) := spells _ _ _ (by decide)
theorem is_0312 : Spells Cert.Pre_pi_is_0312_Kernel.lit0 (permOf ![0, 3, 1, 2] (by decide)) := spells _ _ _ (by decide)
theorem is_0321 : Spells Cert.Pre_pi_is_0321_Kernel.lit0 (permOf ![0, 3, 2, 1] (by decide)) := spells _ _ _ (by decide)
theorem is_1023 : Spells Cert.Pre_pi_is_1023_Kernel.lit0 (permOf ![1, 0, 2, 3] (by decide)) := spells _ _ _ (by decide)
theorem is_1032 : Spells Cert.Pre_pi_is_1032_Kernel.lit0 (permOf ![1, 0, 3, 2] (by decide)) := spells _ _ _ (by decide)
theorem is_1203 : Spells Cert.Pre_pi_is_1203_Kernel.lit0 (permOf ![1, 2, 0, 3] (by decide)) := spells _ _ _ (by decide)
theorem is_1230 : Spells Cert.Pre_pi_is_1230_Kernel.lit0 (permOf ![1, 2, 3, 0] (by decide)) := spells _ _ _ (by decide)
theorem is_1302 : Spells Cert.Pre_pi_is_1302_Kernel.lit0 (permOf ![1, 3, 0, 2] (by decide)) := spells _ _ _ (by decide)
theorem is_1320 : Spells Cert.Pre_pi_is_1320_Kernel.lit0 (permOf ![1, 3, 2, 0] (by decide)) := spells _ _ _ (by decide)
theorem is_2013 : Spells Cert.Pre_pi_is_2013_Kernel.lit0 (permOf ![2, 0, 1, 3] (by decide)) := spells _ _ _ (by decide)
theorem is_2031 : Spells Cert.Pre_pi_is_2031_Kernel.lit0 (permOf ![2, 0, 3, 1] (by decide)) := spells _ _ _ (by decide)
theorem is_2103 : Spells Cert.Pre_pi_is_2103_Kernel.lit0 (permOf ![2, 1, 0, 3] (by decide)) := spells _ _ _ (by decide)
theorem is_2130 : Spells Cert.Pre_pi_is_2130_Kernel.lit0 (permOf ![2, 1, 3, 0] (by decide)) := spells _ _ _ (by decide)
theorem is_2301 : Spells Cert.Pre_pi_is_2301_Kernel.lit0 (permOf ![2, 3, 0, 1] (by decide)) := spells _ _ _ (by decide)
theorem is_2310 : Spells Cert.Pre_pi_is_2310_Kernel.lit0 (permOf ![2, 3, 1, 0] (by decide)) := spells _ _ _ (by decide)
theorem is_3012 : Spells Cert.Pre_pi_is_3012_Kernel.lit0 (permOf ![3, 0, 1, 2] (by decide)) := spells _ _ _ (by decide)
theorem is_3021 : Spells Cert.Pre_pi_is_3021_Kernel.lit0 (permOf ![3, 0, 2, 1] (by decide)) := spells _ _ _ (by decide)
theorem is_3102 : Spells Cert.Pre_pi_is_3102_Kernel.lit0 (permOf ![3, 1, 0, 2] (by decide)) := spells _ _ _ (by decide)
theorem is_3120 : Spells Cert.Pre_pi_is_3120_Kernel.lit0 (permOf ![3, 1, 2, 0] (by decide)) := spells _ _ _ (by decide)
theorem is_3201 : Spells Cert.Pre_pi_is_3201_Kernel.lit0 (permOf ![3, 2, 0, 1] (by decide)) := spells _ _ _ (by decide)
theorem is_3210 : Spells Cert.Pre_pi_is_3210_Kernel.lit0 (permOf ![3, 2, 1, 0] (by decide)) := spells _ _ _ (by decide)

end Cert.Shuffle

end
-- ==== Proof.lean ====
/- The proof of the certificate's claim: the frames of the kernel, of the kernel over the reals and of the reference, that the
   kernel over the reals is the kernel, and that it computes the reference's function, for each of the 24 tables. The
   statements are proved once for every permutation (Proof/Claims.lean); here they are applied to each table
   (Proof/Words.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Words
public import Idealize.ShloMosaic.Adequacy
public import Idealize.ShloMosaic.Init

@[expose] public section

noncomputable section

namespace Cert.Proof

open Idealize.ShloMosaic Idealize.SL.Sem Cert.Shuffle

/-- The claim: the facts that the programs and the preconditions state, then the frames of the kernel, those of the kernel
    over the reals, the reference's frame, that no operation was rewritten, and the values, table by table. -/
theorem claim : Cert.Claim := ⟨Cert.Kernel.Gen.facts, Cert.KernelIdeal.Gen.facts, Cert.ReferenceIdeal.Gen.facts,
  ⟨⟩, ⟨⟩, ⟨⟩, ⟨⟩, ⟨⟩, ⟨⟩, ⟨⟩, ⟨⟩, ⟨⟩, ⟨⟩, ⟨⟩, ⟨⟩,
  ⟨⟩, ⟨⟩, ⟨⟩, ⟨⟩, ⟨⟩, ⟨⟩, ⟨⟩, ⟨⟩, ⟨⟩, ⟨⟩, ⟨⟩, ⟨⟩,
  ⟨⟩, ⟨⟩, ⟨⟩, ⟨⟩, ⟨⟩, ⟨⟩, ⟨⟩, ⟨⟩, ⟨⟩, ⟨⟩, ⟨⟩, ⟨⟩,
  ⟨⟩, ⟨⟩, ⟨⟩, ⟨⟩, ⟨⟩, ⟨⟩, ⟨⟩, ⟨⟩, ⟨⟩, ⟨⟩, ⟨⟩, ⟨⟩,
  frame_kernel is_0123, frame_kernel is_0132, frame_kernel is_0213, frame_kernel is_0231,
  frame_kernel is_0312, frame_kernel is_0321, frame_kernel is_1023, frame_kernel is_1032,
  frame_kernel is_1203, frame_kernel is_1230, frame_kernel is_1302, frame_kernel is_1320,
  frame_kernel is_2013, frame_kernel is_2031, frame_kernel is_2103, frame_kernel is_2130,
  frame_kernel is_2301, frame_kernel is_2310, frame_kernel is_3012, frame_kernel is_3021,
  frame_kernel is_3102, frame_kernel is_3120, frame_kernel is_3201, frame_kernel is_3210,
  frame_ideal is_0123, frame_ideal is_0132, frame_ideal is_0213, frame_ideal is_0231,
  frame_ideal is_0312, frame_ideal is_0321, frame_ideal is_1023, frame_ideal is_1032,
  frame_ideal is_1203, frame_ideal is_1230, frame_ideal is_1302, frame_ideal is_1320,
  frame_ideal is_2013, frame_ideal is_2031, frame_ideal is_2103, frame_ideal is_2130,
  frame_ideal is_2301, frame_ideal is_2310, frame_ideal is_3012, frame_ideal is_3021,
  frame_ideal is_3102, frame_ideal is_3120, frame_ideal is_3201, frame_ideal is_3210,
  fun m ρ _ => frame_ref m ρ,
  fun m ρ _ => frame_ref m ρ, fun m ρ _ => frame_ref m ρ, fun m ρ _ => frame_ref m ρ, fun m ρ _ => frame_ref m ρ,
  fun m ρ _ => frame_ref m ρ, fun m ρ _ => frame_ref m ρ, fun m ρ _ => frame_ref m ρ, fun m ρ _ => frame_ref m ρ,
  fun m ρ _ => frame_ref m ρ, fun m ρ _ => frame_ref m ρ, fun m ρ _ => frame_ref m ρ, fun m ρ _ => frame_ref m ρ,
  fun m ρ _ => frame_ref m ρ, fun m ρ _ => frame_ref m ρ, fun m ρ _ => frame_ref m ρ, fun m ρ _ => frame_ref m ρ,
  fun m ρ _ => frame_ref m ρ, fun m ρ _ => frame_ref m ρ, fun m ρ _ => frame_ref m ρ, fun m ρ _ => frame_ref m ρ,
  fun m ρ _ => frame_ref m ρ, fun m ρ _ => frame_ref m ρ, fun m ρ _ => frame_ref m ρ, fun m ρ _ => frame_ref m ρ,
  trivial,
  value is_0123, value is_0132, value is_0213, value is_0231, value is_0312, value is_0321,
  value is_1023, value is_1032, value is_1203, value is_1230, value is_1302, value is_1320,
  value is_2013, value is_2031, value is_2103, value is_2130, value is_2301, value is_2310,
  value is_3012, value is_3021, value is_3102, value is_3120, value is_3201, value is_3210⟩

end Cert.Proof

end
